-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x2048 : Shape := ⟨2, ![2048, 2048]⟩
abbrev S2048x64 : Shape := ⟨2, ![2048, 64]⟩
abbrev S32x64x64 : Shape := ⟨3, ![32, 64, 64]⟩
abbrev S32 : Shape := ⟨1, ![32]⟩
abbrev S_ : Shape := ⟨0, ![]⟩
abbrev S64x64 : Shape := ⟨2, ![64, 64]⟩
abbrev S1x64x64 : Shape := ⟨3, ![1, 64, 64]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S64x2048, .bf16⟩
  | .hbm, ⟨1, _⟩ => ⟨S2048x2048, .bf16⟩
  | .hbm, ⟨2, _⟩ => ⟨S2048x64, .f32⟩
  | .local _ .vmem, ⟨0, _⟩ => ⟨S64x2048, .bf16⟩
  | .local _ .vmem, ⟨1, _⟩ => ⟨S2048x2048, .bf16⟩
  | .local _ .vmem, ⟨2, _⟩ => ⟨S2048x64, .f32⟩
  | .local _ .vmem, ⟨3, _⟩ => ⟨S32x64x64, .bf16⟩
  | .local _ .vmem, ⟨4, _⟩ => ⟨S32x64x64, .bf16⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_423 : BitVec 32 := 0#32
  let c0_i32_424 : BitVec 32 := 0#32
  ![v2.toNat, 0, 0]
def k0_off3 (d0 : Dev nD) (c1_i32_413 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v639 : BitVec 32 := Scalar.addi v2 c1_i32_413
  let c32_i32_414 : BitVec 32 := 32#32
  let c0_i32_415 : BitVec 32 := 0#32
  let v640 : BitVec 1 := Scalar.cmpi .eq c32_i32_414 c0_i32_415
  let c1_i32_416 : BitVec 32 := 1#32
  let v641 : BitVec 32 := Scalar.select v640 c1_i32_416 c32_i32_414
  let v642 : BitVec 32 := Scalar.remsi v639 v641
  let c0_i32_418 : BitVec 32 := 0#32
  let v644 : BitVec 1 := Scalar.cmpi .slt v642 c0_i32_418
  let c0_i32_419 : BitVec 32 := 0#32
  let v645 : BitVec 1 := Scalar.cmpi .slt v641 c0_i32_419
  let v646 : BitVec 1 := Scalar.xori v644 v645
  let c0_i32_417 : BitVec 32 := 0#32
  let v643 : BitVec 1 := Scalar.cmpi .ne v642 c0_i32_417
  let v647 : BitVec 1 := Scalar.andi v646 v643
  let v648 : BitVec 32 := Scalar.addi v642 v641
  let v649 : BitVec 32 := Scalar.select v647 v648 v642
  let c0_i32_425 : BitVec 32 := 0#32
  let c0_i32_426 : BitVec 32 := 0#32
  ![v649.toNat, 0, 0]
def k0_dev32 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_413 : BitVec 32 := 1#32
  let v639 : BitVec 32 := Scalar.addi v2 c1_i32_413
  let c32_i32_414 : BitVec 32 := 32#32
  let c0_i32_415 : BitVec 32 := 0#32
  let v640 : BitVec 1 := Scalar.cmpi .eq c32_i32_414 c0_i32_415
  let c1_i32_416 : BitVec 32 := 1#32
  let v641 : BitVec 32 := Scalar.select v640 c1_i32_416 c32_i32_414
  let v642 : BitVec 32 := Scalar.remsi v639 v641
  let c0_i32_418 : BitVec 32 := 0#32
  let v644 : BitVec 1 := Scalar.cmpi .slt v642 c0_i32_418
  let c0_i32_419 : BitVec 32 := 0#32
  let v645 : BitVec 1 := Scalar.cmpi .slt v641 c0_i32_419
  let v646 : BitVec 1 := Scalar.xori v644 v645
  let c0_i32_417 : BitVec 32 := 0#32
  let v643 : BitVec 1 := Scalar.cmpi .ne v642 c0_i32_417
  let v647 : BitVec 1 := Scalar.andi v646 v643
  let v648 : BitVec 32 := Scalar.addi v642 v641
  let v649 : BitVec 32 := Scalar.select v647 v648 v642
  let c1_i32_421 : BitVec 32 := 1#32
  let v650 : BitVec 32 := Scalar.muli v649 c1_i32_421
  let v651 : BitVec 32 := Scalar.addi c0_i32_422 v650
  v651.toNat
def k0_dev33 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_427 : BitVec 32 := 2#32
  let v660 : BitVec 32 := Scalar.addi v2 c2_i32_427
  let c32_i32_428 : BitVec 32 := 32#32
  let c0_i32_429 : BitVec 32 := 0#32
  let v661 : BitVec 1 := Scalar.cmpi .eq c32_i32_428 c0_i32_429
  let c1_i32_430 : BitVec 32 := 1#32
  let v662 : BitVec 32 := Scalar.select v661 c1_i32_430 c32_i32_428
  let v663 : BitVec 32 := Scalar.remsi v660 v662
  let c0_i32_432 : BitVec 32 := 0#32
  let v665 : BitVec 1 := Scalar.cmpi .slt v663 c0_i32_432
  let c0_i32_433 : BitVec 32 := 0#32
  let v666 : BitVec 1 := Scalar.cmpi .slt v662 c0_i32_433
  let v667 : BitVec 1 := Scalar.xori v665 v666
  let c0_i32_431 : BitVec 32 := 0#32
  let v664 : BitVec 1 := Scalar.cmpi .ne v663 c0_i32_431
  let v668 : BitVec 1 := Scalar.andi v667 v664
  let v669 : BitVec 32 := Scalar.addi v663 v662
  let v670 : BitVec 32 := Scalar.select v668 v669 v663
  let c1_i32_435 : BitVec 32 := 1#32
  let v671 : BitVec 32 := Scalar.muli v670 c1_i32_435
  let v672 : BitVec 32 := Scalar.addi c0_i32_436 v671
  v672.toNat
def k0_dev34 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_441 : BitVec 32 := 3#32
  let v681 : BitVec 32 := Scalar.addi v2 c3_i32_441
  let c32_i32_442 : BitVec 32 := 32#32
  let c0_i32_443 : BitVec 32 := 0#32
  let v682 : BitVec 1 := Scalar.cmpi .eq c32_i32_442 c0_i32_443
  let c1_i32_444 : BitVec 32 := 1#32
  let v683 : BitVec 32 := Scalar.select v682 c1_i32_444 c32_i32_442
  let v684 : BitVec 32 := Scalar.remsi v681 v683
  let c0_i32_446 : BitVec 32 := 0#32
  let v686 : BitVec 1 := Scalar.cmpi .slt v684 c0_i32_446
  let c0_i32_447 : BitVec 32 := 0#32
  let v687 : BitVec 1 := Scalar.cmpi .slt v683 c0_i32_447
  let v688 : BitVec 1 := Scalar.xori v686 v687
  let c0_i32_445 : BitVec 32 := 0#32
  let v685 : BitVec 1 := Scalar.cmpi .ne v684 c0_i32_445
  let v689 : BitVec 1 := Scalar.andi v688 v685
  let v690 : BitVec 32 := Scalar.addi v684 v683
  let v691 : BitVec 32 := Scalar.select v689 v690 v684
  let c1_i32_449 : BitVec 32 := 1#32
  let v692 : BitVec 32 := Scalar.muli v691 c1_i32_449
  let v693 : BitVec 32 := Scalar.addi c0_i32_450 v692
  v693.toNat
def k0_dev35 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_455 : BitVec 32 := 4#32
  let v702 : BitVec 32 := Scalar.addi v2 c4_i32_455
  let c32_i32_456 : BitVec 32 := 32#32
  let c0_i32_457 : BitVec 32 := 0#32
  let v703 : BitVec 1 := Scalar.cmpi .eq c32_i32_456 c0_i32_457
  let c1_i32_458 : BitVec 32 := 1#32
  let v704 : BitVec 32 := Scalar.select v703 c1_i32_458 c32_i32_456
  let v705 : BitVec 32 := Scalar.remsi v702 v704
  let c0_i32_460 : BitVec 32 := 0#32
  let v707 : BitVec 1 := Scalar.cmpi .slt v705 c0_i32_460
  let c0_i32_461 : BitVec 32 := 0#32
  let v708 : BitVec 1 := Scalar.cmpi .slt v704 c0_i32_461
  let v709 : BitVec 1 := Scalar.xori v707 v708
  let c0_i32_459 : BitVec 32 := 0#32
  let v706 : BitVec 1 := Scalar.cmpi .ne v705 c0_i32_459
  let v710 : BitVec 1 := Scalar.andi v709 v706
  let v711 : BitVec 32 := Scalar.addi v705 v704
  let v712 : BitVec 32 := Scalar.select v710 v711 v705
  let c1_i32_463 : BitVec 32 := 1#32
  let v713 : BitVec 32 := Scalar.muli v712 c1_i32_463
  let v714 : BitVec 32 := Scalar.addi c0_i32_464 v713
  v714.toNat
def k0_dev36 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_469 : BitVec 32 := 5#32
  let v723 : BitVec 32 := Scalar.addi v2 c5_i32_469
  let c32_i32_470 : BitVec 32 := 32#32
  let c0_i32_471 : BitVec 32 := 0#32
  let v724 : BitVec 1 := Scalar.cmpi .eq c32_i32_470 c0_i32_471
  let c1_i32_472 : BitVec 32 := 1#32
  let v725 : BitVec 32 := Scalar.select v724 c1_i32_472 c32_i32_470
  let v726 : BitVec 32 := Scalar.remsi v723 v725
  let c0_i32_474 : BitVec 32 := 0#32
  let v728 : BitVec 1 := Scalar.cmpi .slt v726 c0_i32_474
  let c0_i32_475 : BitVec 32 := 0#32
  let v729 : BitVec 1 := Scalar.cmpi .slt v725 c0_i32_475
  let v730 : BitVec 1 := Scalar.xori v728 v729
  let c0_i32_473 : BitVec 32 := 0#32
  let v727 : BitVec 1 := Scalar.cmpi .ne v726 c0_i32_473
  let v731 : BitVec 1 := Scalar.andi v730 v727
  let v732 : BitVec 32 := Scalar.addi v726 v725
  let v733 : BitVec 32 := Scalar.select v731 v732 v726
  let c1_i32_477 : BitVec 32 := 1#32
  let v734 : BitVec 32 := Scalar.muli v733 c1_i32_477
  let v735 : BitVec 32 := Scalar.addi c0_i32_478 v734
  v735.toNat
def k0_dev37 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_483 : BitVec 32 := 6#32
  let v744 : BitVec 32 := Scalar.addi v2 c6_i32_483
  let c32_i32_484 : BitVec 32 := 32#32
  let c0_i32_485 : BitVec 32 := 0#32
  let v745 : BitVec 1 := Scalar.cmpi .eq c32_i32_484 c0_i32_485
  let c1_i32_486 : BitVec 32 := 1#32
  let v746 : BitVec 32 := Scalar.select v745 c1_i32_486 c32_i32_484
  let v747 : BitVec 32 := Scalar.remsi v744 v746
  let c0_i32_488 : BitVec 32 := 0#32
  let v749 : BitVec 1 := Scalar.cmpi .slt v747 c0_i32_488
  let c0_i32_489 : BitVec 32 := 0#32
  let v750 : BitVec 1 := Scalar.cmpi .slt v746 c0_i32_489
  let v751 : BitVec 1 := Scalar.xori v749 v750
  let c0_i32_487 : BitVec 32 := 0#32
  let v748 : BitVec 1 := Scalar.cmpi .ne v747 c0_i32_487
  let v752 : BitVec 1 := Scalar.andi v751 v748
  let v753 : BitVec 32 := Scalar.addi v747 v746
  let v754 : BitVec 32 := Scalar.select v752 v753 v747
  let c1_i32_491 : BitVec 32 := 1#32
  let v755 : BitVec 32 := Scalar.muli v754 c1_i32_491
  let v756 : BitVec 32 := Scalar.addi c0_i32_492 v755
  v756.toNat
def k0_dev38 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_497 : BitVec 32 := 7#32
  let v765 : BitVec 32 := Scalar.addi v2 c7_i32_497
  let c32_i32_498 : BitVec 32 := 32#32
  let c0_i32_499 : BitVec 32 := 0#32
  let v766 : BitVec 1 := Scalar.cmpi .eq c32_i32_498 c0_i32_499
  let c1_i32_500 : BitVec 32 := 1#32
  let v767 : BitVec 32 := Scalar.select v766 c1_i32_500 c32_i32_498
  let v768 : BitVec 32 := Scalar.remsi v765 v767
  let c0_i32_502 : BitVec 32 := 0#32
  let v770 : BitVec 1 := Scalar.cmpi .slt v768 c0_i32_502
  let c0_i32_503 : BitVec 32 := 0#32
  let v771 : BitVec 1 := Scalar.cmpi .slt v767 c0_i32_503
  let v772 : BitVec 1 := Scalar.xori v770 v771
  let c0_i32_501 : BitVec 32 := 0#32
  let v769 : BitVec 1 := Scalar.cmpi .ne v768 c0_i32_501
  let v773 : BitVec 1 := Scalar.andi v772 v769
  let v774 : BitVec 32 := Scalar.addi v768 v767
  let v775 : BitVec 32 := Scalar.select v773 v774 v768
  let c1_i32_505 : BitVec 32 := 1#32
  let v776 : BitVec 32 := Scalar.muli v775 c1_i32_505
  let v777 : BitVec 32 := Scalar.addi c0_i32_506 v776
  v777.toNat
def k0_dev39 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_511 : BitVec 32 := 8#32
  let v786 : BitVec 32 := Scalar.addi v2 c8_i32_511
  let c32_i32_512 : BitVec 32 := 32#32
  let c0_i32_513 : BitVec 32 := 0#32
  let v787 : BitVec 1 := Scalar.cmpi .eq c32_i32_512 c0_i32_513
  let c1_i32_514 : BitVec 32 := 1#32
  let v788 : BitVec 32 := Scalar.select v787 c1_i32_514 c32_i32_512
  let v789 : BitVec 32 := Scalar.remsi v786 v788
  let c0_i32_516 : BitVec 32 := 0#32
  let v791 : BitVec 1 := Scalar.cmpi .slt v789 c0_i32_516
  let c0_i32_517 : BitVec 32 := 0#32
  let v792 : BitVec 1 := Scalar.cmpi .slt v788 c0_i32_517
  let v793 : BitVec 1 := Scalar.xori v791 v792
  let c0_i32_515 : BitVec 32 := 0#32
  let v790 : BitVec 1 := Scalar.cmpi .ne v789 c0_i32_515
  let v794 : BitVec 1 := Scalar.andi v793 v790
  let v795 : BitVec 32 := Scalar.addi v789 v788
  let v796 : BitVec 32 := Scalar.select v794 v795 v789
  let c1_i32_519 : BitVec 32 := 1#32
  let v797 : BitVec 32 := Scalar.muli v796 c1_i32_519
  let v798 : BitVec 32 := Scalar.addi c0_i32_520 v797
  v798.toNat
def k0_dev40 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_525 : BitVec 32 := 9#32
  let v807 : BitVec 32 := Scalar.addi v2 c9_i32_525
  let c32_i32_526 : BitVec 32 := 32#32
  let c0_i32_527 : BitVec 32 := 0#32
  let v808 : BitVec 1 := Scalar.cmpi .eq c32_i32_526 c0_i32_527
  let c1_i32_528 : BitVec 32 := 1#32
  let v809 : BitVec 32 := Scalar.select v808 c1_i32_528 c32_i32_526
  let v810 : BitVec 32 := Scalar.remsi v807 v809
  let c0_i32_530 : BitVec 32 := 0#32
  let v812 : BitVec 1 := Scalar.cmpi .slt v810 c0_i32_530
  let c0_i32_531 : BitVec 32 := 0#32
  let v813 : BitVec 1 := Scalar.cmpi .slt v809 c0_i32_531
  let v814 : BitVec 1 := Scalar.xori v812 v813
  let c0_i32_529 : BitVec 32 := 0#32
  let v811 : BitVec 1 := Scalar.cmpi .ne v810 c0_i32_529
  let v815 : BitVec 1 := Scalar.andi v814 v811
  let v816 : BitVec 32 := Scalar.addi v810 v809
  let v817 : BitVec 32 := Scalar.select v815 v816 v810
  let c1_i32_533 : BitVec 32 := 1#32
  let v818 : BitVec 32 := Scalar.muli v817 c1_i32_533
  let v819 : BitVec 32 := Scalar.addi c0_i32_534 v818
  v819.toNat
def k0_dev41 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_539 : BitVec 32 := 10#32
  let v828 : BitVec 32 := Scalar.addi v2 c10_i32_539
  let c32_i32_540 : BitVec 32 := 32#32
  let c0_i32_541 : BitVec 32 := 0#32
  let v829 : BitVec 1 := Scalar.cmpi .eq c32_i32_540 c0_i32_541
  let c1_i32_542 : BitVec 32 := 1#32
  let v830 : BitVec 32 := Scalar.select v829 c1_i32_542 c32_i32_540
  let v831 : BitVec 32 := Scalar.remsi v828 v830
  let c0_i32_544 : BitVec 32 := 0#32
  let v833 : BitVec 1 := Scalar.cmpi .slt v831 c0_i32_544
  let c0_i32_545 : BitVec 32 := 0#32
  let v834 : BitVec 1 := Scalar.cmpi .slt v830 c0_i32_545
  let v835 : BitVec 1 := Scalar.xori v833 v834
  let c0_i32_543 : BitVec 32 := 0#32
  let v832 : BitVec 1 := Scalar.cmpi .ne v831 c0_i32_543
  let v836 : BitVec 1 := Scalar.andi v835 v832
  let v837 : BitVec 32 := Scalar.addi v831 v830
  let v838 : BitVec 32 := Scalar.select v836 v837 v831
  let c1_i32_547 : BitVec 32 := 1#32
  let v839 : BitVec 32 := Scalar.muli v838 c1_i32_547
  let v840 : BitVec 32 := Scalar.addi c0_i32_548 v839
  v840.toNat
def k0_dev42 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_553 : BitVec 32 := 11#32
  let v849 : BitVec 32 := Scalar.addi v2 c11_i32_553
  let c32_i32_554 : BitVec 32 := 32#32
  let c0_i32_555 : BitVec 32 := 0#32
  let v850 : BitVec 1 := Scalar.cmpi .eq c32_i32_554 c0_i32_555
  let c1_i32_556 : BitVec 32 := 1#32
  let v851 : BitVec 32 := Scalar.select v850 c1_i32_556 c32_i32_554
  let v852 : BitVec 32 := Scalar.remsi v849 v851
  let c0_i32_558 : BitVec 32 := 0#32
  let v854 : BitVec 1 := Scalar.cmpi .slt v852 c0_i32_558
  let c0_i32_559 : BitVec 32 := 0#32
  let v855 : BitVec 1 := Scalar.cmpi .slt v851 c0_i32_559
  let v856 : BitVec 1 := Scalar.xori v854 v855
  let c0_i32_557 : BitVec 32 := 0#32
  let v853 : BitVec 1 := Scalar.cmpi .ne v852 c0_i32_557
  let v857 : BitVec 1 := Scalar.andi v856 v853
  let v858 : BitVec 32 := Scalar.addi v852 v851
  let v859 : BitVec 32 := Scalar.select v857 v858 v852
  let c1_i32_561 : BitVec 32 := 1#32
  let v860 : BitVec 32 := Scalar.muli v859 c1_i32_561
  let v861 : BitVec 32 := Scalar.addi c0_i32_562 v860
  v861.toNat
def k0_dev43 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_567 : BitVec 32 := 12#32
  let v870 : BitVec 32 := Scalar.addi v2 c12_i32_567
  let c32_i32_568 : BitVec 32 := 32#32
  let c0_i32_569 : BitVec 32 := 0#32
  let v871 : BitVec 1 := Scalar.cmpi .eq c32_i32_568 c0_i32_569
  let c1_i32_570 : BitVec 32 := 1#32
  let v872 : BitVec 32 := Scalar.select v871 c1_i32_570 c32_i32_568
  let v873 : BitVec 32 := Scalar.remsi v870 v872
  let c0_i32_572 : BitVec 32 := 0#32
  let v875 : BitVec 1 := Scalar.cmpi .slt v873 c0_i32_572
  let c0_i32_573 : BitVec 32 := 0#32
  let v876 : BitVec 1 := Scalar.cmpi .slt v872 c0_i32_573
  let v877 : BitVec 1 := Scalar.xori v875 v876
  let c0_i32_571 : BitVec 32 := 0#32
  let v874 : BitVec 1 := Scalar.cmpi .ne v873 c0_i32_571
  let v878 : BitVec 1 := Scalar.andi v877 v874
  let v879 : BitVec 32 := Scalar.addi v873 v872
  let v880 : BitVec 32 := Scalar.select v878 v879 v873
  let c1_i32_575 : BitVec 32 := 1#32
  let v881 : BitVec 32 := Scalar.muli v880 c1_i32_575
  let v882 : BitVec 32 := Scalar.addi c0_i32_576 v881
  v882.toNat
def k0_dev44 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_581 : BitVec 32 := 13#32
  let v891 : BitVec 32 := Scalar.addi v2 c13_i32_581
  let c32_i32_582 : BitVec 32 := 32#32
  let c0_i32_583 : BitVec 32 := 0#32
  let v892 : BitVec 1 := Scalar.cmpi .eq c32_i32_582 c0_i32_583
  let c1_i32_584 : BitVec 32 := 1#32
  let v893 : BitVec 32 := Scalar.select v892 c1_i32_584 c32_i32_582
  let v894 : BitVec 32 := Scalar.remsi v891 v893
  let c0_i32_586 : BitVec 32 := 0#32
  let v896 : BitVec 1 := Scalar.cmpi .slt v894 c0_i32_586
  let c0_i32_587 : BitVec 32 := 0#32
  let v897 : BitVec 1 := Scalar.cmpi .slt v893 c0_i32_587
  let v898 : BitVec 1 := Scalar.xori v896 v897
  let c0_i32_585 : BitVec 32 := 0#32
  let v895 : BitVec 1 := Scalar.cmpi .ne v894 c0_i32_585
  let v899 : BitVec 1 := Scalar.andi v898 v895
  let v900 : BitVec 32 := Scalar.addi v894 v893
  let v901 : BitVec 32 := Scalar.select v899 v900 v894
  let c1_i32_589 : BitVec 32 := 1#32
  let v902 : BitVec 32 := Scalar.muli v901 c1_i32_589
  let v903 : BitVec 32 := Scalar.addi c0_i32_590 v902
  v903.toNat
def k0_dev45 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_595 : BitVec 32 := 14#32
  let v912 : BitVec 32 := Scalar.addi v2 c14_i32_595
  let c32_i32_596 : BitVec 32 := 32#32
  let c0_i32_597 : BitVec 32 := 0#32
  let v913 : BitVec 1 := Scalar.cmpi .eq c32_i32_596 c0_i32_597
  let c1_i32_598 : BitVec 32 := 1#32
  let v914 : BitVec 32 := Scalar.select v913 c1_i32_598 c32_i32_596
  let v915 : BitVec 32 := Scalar.remsi v912 v914
  let c0_i32_600 : BitVec 32 := 0#32
  let v917 : BitVec 1 := Scalar.cmpi .slt v915 c0_i32_600
  let c0_i32_601 : BitVec 32 := 0#32
  let v918 : BitVec 1 := Scalar.cmpi .slt v914 c0_i32_601
  let v919 : BitVec 1 := Scalar.xori v917 v918
  let c0_i32_599 : BitVec 32 := 0#32
  let v916 : BitVec 1 := Scalar.cmpi .ne v915 c0_i32_599
  let v920 : BitVec 1 := Scalar.andi v919 v916
  let v921 : BitVec 32 := Scalar.addi v915 v914
  let v922 : BitVec 32 := Scalar.select v920 v921 v915
  let c1_i32_603 : BitVec 32 := 1#32
  let v923 : BitVec 32 := Scalar.muli v922 c1_i32_603
  let v924 : BitVec 32 := Scalar.addi c0_i32_604 v923
  v924.toNat
def k0_dev46 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_609 : BitVec 32 := 15#32
  let v933 : BitVec 32 := Scalar.addi v2 c15_i32_609
  let c32_i32_610 : BitVec 32 := 32#32
  let c0_i32_611 : BitVec 32 := 0#32
  let v934 : BitVec 1 := Scalar.cmpi .eq c32_i32_610 c0_i32_611
  let c1_i32_612 : BitVec 32 := 1#32
  let v935 : BitVec 32 := Scalar.select v934 c1_i32_612 c32_i32_610
  let v936 : BitVec 32 := Scalar.remsi v933 v935
  let c0_i32_614 : BitVec 32 := 0#32
  let v938 : BitVec 1 := Scalar.cmpi .slt v936 c0_i32_614
  let c0_i32_615 : BitVec 32 := 0#32
  let v939 : BitVec 1 := Scalar.cmpi .slt v935 c0_i32_615
  let v940 : BitVec 1 := Scalar.xori v938 v939
  let c0_i32_613 : BitVec 32 := 0#32
  let v937 : BitVec 1 := Scalar.cmpi .ne v936 c0_i32_613
  let v941 : BitVec 1 := Scalar.andi v940 v937
  let v942 : BitVec 32 := Scalar.addi v936 v935
  let v943 : BitVec 32 := Scalar.select v941 v942 v936
  let c1_i32_617 : BitVec 32 := 1#32
  let v944 : BitVec 32 := Scalar.muli v943 c1_i32_617
  let v945 : BitVec 32 := Scalar.addi c0_i32_618 v944
  v945.toNat
def k0_dev47 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_623 : BitVec 32 := 16#32
  let v954 : BitVec 32 := Scalar.addi v2 c16_i32_623
  let c32_i32_624 : BitVec 32 := 32#32
  let c0_i32_625 : BitVec 32 := 0#32
  let v955 : BitVec 1 := Scalar.cmpi .eq c32_i32_624 c0_i32_625
  let c1_i32_626 : BitVec 32 := 1#32
  let v956 : BitVec 32 := Scalar.select v955 c1_i32_626 c32_i32_624
  let v957 : BitVec 32 := Scalar.remsi v954 v956
  let c0_i32_628 : BitVec 32 := 0#32
  let v959 : BitVec 1 := Scalar.cmpi .slt v957 c0_i32_628
  let c0_i32_629 : BitVec 32 := 0#32
  let v960 : BitVec 1 := Scalar.cmpi .slt v956 c0_i32_629
  let v961 : BitVec 1 := Scalar.xori v959 v960
  let c0_i32_627 : BitVec 32 := 0#32
  let v958 : BitVec 1 := Scalar.cmpi .ne v957 c0_i32_627
  let v962 : BitVec 1 := Scalar.andi v961 v958
  let v963 : BitVec 32 := Scalar.addi v957 v956
  let v964 : BitVec 32 := Scalar.select v962 v963 v957
  let c1_i32_631 : BitVec 32 := 1#32
  let v965 : BitVec 32 := Scalar.muli v964 c1_i32_631
  let v966 : BitVec 32 := Scalar.addi c0_i32_632 v965
  v966.toNat
def k0_dev48 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_637 : BitVec 32 := 17#32
  let v975 : BitVec 32 := Scalar.addi v2 c17_i32_637
  let c32_i32_638 : BitVec 32 := 32#32
  let c0_i32_639 : BitVec 32 := 0#32
  let v976 : BitVec 1 := Scalar.cmpi .eq c32_i32_638 c0_i32_639
  let c1_i32_640 : BitVec 32 := 1#32
  let v977 : BitVec 32 := Scalar.select v976 c1_i32_640 c32_i32_638
  let v978 : BitVec 32 := Scalar.remsi v975 v977
  let c0_i32_642 : BitVec 32 := 0#32
  let v980 : BitVec 1 := Scalar.cmpi .slt v978 c0_i32_642
  let c0_i32_643 : BitVec 32 := 0#32
  let v981 : BitVec 1 := Scalar.cmpi .slt v977 c0_i32_643
  let v982 : BitVec 1 := Scalar.xori v980 v981
  let c0_i32_641 : BitVec 32 := 0#32
  let v979 : BitVec 1 := Scalar.cmpi .ne v978 c0_i32_641
  let v983 : BitVec 1 := Scalar.andi v982 v979
  let v984 : BitVec 32 := Scalar.addi v978 v977
  let v985 : BitVec 32 := Scalar.select v983 v984 v978
  let c1_i32_645 : BitVec 32 := 1#32
  let v986 : BitVec 32 := Scalar.muli v985 c1_i32_645
  let v987 : BitVec 32 := Scalar.addi c0_i32_646 v986
  v987.toNat
def k0_dev49 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_651 : BitVec 32 := 18#32
  let v996 : BitVec 32 := Scalar.addi v2 c18_i32_651
  let c32_i32_652 : BitVec 32 := 32#32
  let c0_i32_653 : BitVec 32 := 0#32
  let v997 : BitVec 1 := Scalar.cmpi .eq c32_i32_652 c0_i32_653
  let c1_i32_654 : BitVec 32 := 1#32
  let v998 : BitVec 32 := Scalar.select v997 c1_i32_654 c32_i32_652
  let v999 : BitVec 32 := Scalar.remsi v996 v998
  let c0_i32_656 : BitVec 32 := 0#32
  let v1001 : BitVec 1 := Scalar.cmpi .slt v999 c0_i32_656
  let c0_i32_657 : BitVec 32 := 0#32
  let v1002 : BitVec 1 := Scalar.cmpi .slt v998 c0_i32_657
  let v1003 : BitVec 1 := Scalar.xori v1001 v1002
  let c0_i32_655 : BitVec 32 := 0#32
  let v1000 : BitVec 1 := Scalar.cmpi .ne v999 c0_i32_655
  let v1004 : BitVec 1 := Scalar.andi v1003 v1000
  let v1005 : BitVec 32 := Scalar.addi v999 v998
  let v1006 : BitVec 32 := Scalar.select v1004 v1005 v999
  let c1_i32_659 : BitVec 32 := 1#32
  let v1007 : BitVec 32 := Scalar.muli v1006 c1_i32_659
  let v1008 : BitVec 32 := Scalar.addi c0_i32_660 v1007
  v1008.toNat
def k0_dev50 (d0 : Dev nD) : Nat :=
  let c0_i32_674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_665 : BitVec 32 := 19#32
  let v1017 : BitVec 32 := Scalar.addi v2 c19_i32_665
  let c32_i32_666 : BitVec 32 := 32#32
  let c0_i32_667 : BitVec 32 := 0#32
  let v1018 : BitVec 1 := Scalar.cmpi .eq c32_i32_666 c0_i32_667
  let c1_i32_668 : BitVec 32 := 1#32
  let v1019 : BitVec 32 := Scalar.select v1018 c1_i32_668 c32_i32_666
  let v1020 : BitVec 32 := Scalar.remsi v1017 v1019
  let c0_i32_670 : BitVec 32 := 0#32
  let v1022 : BitVec 1 := Scalar.cmpi .slt v1020 c0_i32_670
  let c0_i32_671 : BitVec 32 := 0#32
  let v1023 : BitVec 1 := Scalar.cmpi .slt v1019 c0_i32_671
  let v1024 : BitVec 1 := Scalar.xori v1022 v1023
  let c0_i32_669 : BitVec 32 := 0#32
  let v1021 : BitVec 1 := Scalar.cmpi .ne v1020 c0_i32_669
  let v1025 : BitVec 1 := Scalar.andi v1024 v1021
  let v1026 : BitVec 32 := Scalar.addi v1020 v1019
  let v1027 : BitVec 32 := Scalar.select v1025 v1026 v1020
  let c1_i32_673 : BitVec 32 := 1#32
  let v1028 : BitVec 32 := Scalar.muli v1027 c1_i32_673
  let v1029 : BitVec 32 := Scalar.addi c0_i32_674 v1028
  v1029.toNat
def k0_dev51 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_679 : BitVec 32 := 20#32
  let v1038 : BitVec 32 := Scalar.addi v2 c20_i32_679
  let c32_i32_680 : BitVec 32 := 32#32
  let c0_i32_681 : BitVec 32 := 0#32
  let v1039 : BitVec 1 := Scalar.cmpi .eq c32_i32_680 c0_i32_681
  let c1_i32_682 : BitVec 32 := 1#32
  let v1040 : BitVec 32 := Scalar.select v1039 c1_i32_682 c32_i32_680
  let v1041 : BitVec 32 := Scalar.remsi v1038 v1040
  let c0_i32_684 : BitVec 32 := 0#32
  let v1043 : BitVec 1 := Scalar.cmpi .slt v1041 c0_i32_684
  let c0_i32_685 : BitVec 32 := 0#32
  let v1044 : BitVec 1 := Scalar.cmpi .slt v1040 c0_i32_685
  let v1045 : BitVec 1 := Scalar.xori v1043 v1044
  let c0_i32_683 : BitVec 32 := 0#32
  let v1042 : BitVec 1 := Scalar.cmpi .ne v1041 c0_i32_683
  let v1046 : BitVec 1 := Scalar.andi v1045 v1042
  let v1047 : BitVec 32 := Scalar.addi v1041 v1040
  let v1048 : BitVec 32 := Scalar.select v1046 v1047 v1041
  let c1_i32_687 : BitVec 32 := 1#32
  let v1049 : BitVec 32 := Scalar.muli v1048 c1_i32_687
  let v1050 : BitVec 32 := Scalar.addi c0_i32_688 v1049
  v1050.toNat
def k0_dev52 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_693 : BitVec 32 := 21#32
  let v1059 : BitVec 32 := Scalar.addi v2 c21_i32_693
  let c32_i32_694 : BitVec 32 := 32#32
  let c0_i32_695 : BitVec 32 := 0#32
  let v1060 : BitVec 1 := Scalar.cmpi .eq c32_i32_694 c0_i32_695
  let c1_i32_696 : BitVec 32 := 1#32
  let v1061 : BitVec 32 := Scalar.select v1060 c1_i32_696 c32_i32_694
  let v1062 : BitVec 32 := Scalar.remsi v1059 v1061
  let c0_i32_698 : BitVec 32 := 0#32
  let v1064 : BitVec 1 := Scalar.cmpi .slt v1062 c0_i32_698
  let c0_i32_699 : BitVec 32 := 0#32
  let v1065 : BitVec 1 := Scalar.cmpi .slt v1061 c0_i32_699
  let v1066 : BitVec 1 := Scalar.xori v1064 v1065
  let c0_i32_697 : BitVec 32 := 0#32
  let v1063 : BitVec 1 := Scalar.cmpi .ne v1062 c0_i32_697
  let v1067 : BitVec 1 := Scalar.andi v1066 v1063
  let v1068 : BitVec 32 := Scalar.addi v1062 v1061
  let v1069 : BitVec 32 := Scalar.select v1067 v1068 v1062
  let c1_i32_701 : BitVec 32 := 1#32
  let v1070 : BitVec 32 := Scalar.muli v1069 c1_i32_701
  let v1071 : BitVec 32 := Scalar.addi c0_i32_702 v1070
  v1071.toNat
def k0_dev53 (d0 : Dev nD) : Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_707 : BitVec 32 := 22#32
  let v1080 : BitVec 32 := Scalar.addi v2 c22_i32_707
  let c32_i32_708 : BitVec 32 := 32#32
  let c0_i32_709 : BitVec 32 := 0#32
  let v1081 : BitVec 1 := Scalar.cmpi .eq c32_i32_708 c0_i32_709
  let c1_i32_710 : BitVec 32 := 1#32
  let v1082 : BitVec 32 := Scalar.select v1081 c1_i32_710 c32_i32_708
  let v1083 : BitVec 32 := Scalar.remsi v1080 v1082
  let c0_i32_712 : BitVec 32 := 0#32
  let v1085 : BitVec 1 := Scalar.cmpi .slt v1083 c0_i32_712
  let c0_i32_713 : BitVec 32 := 0#32
  let v1086 : BitVec 1 := Scalar.cmpi .slt v1082 c0_i32_713
  let v1087 : BitVec 1 := Scalar.xori v1085 v1086
  let c0_i32_711 : BitVec 32 := 0#32
  let v1084 : BitVec 1 := Scalar.cmpi .ne v1083 c0_i32_711
  let v1088 : BitVec 1 := Scalar.andi v1087 v1084
  let v1089 : BitVec 32 := Scalar.addi v1083 v1082
  let v1090 : BitVec 32 := Scalar.select v1088 v1089 v1083
  let c1_i32_715 : BitVec 32 := 1#32
  let v1091 : BitVec 32 := Scalar.muli v1090 c1_i32_715
  let v1092 : BitVec 32 := Scalar.addi c0_i32_716 v1091
  v1092.toNat
def k0_dev54 (d0 : Dev nD) : Nat :=
  let c0_i32_730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_721 : BitVec 32 := 23#32
  let v1101 : BitVec 32 := Scalar.addi v2 c23_i32_721
  let c32_i32_722 : BitVec 32 := 32#32
  let c0_i32_723 : BitVec 32 := 0#32
  let v1102 : BitVec 1 := Scalar.cmpi .eq c32_i32_722 c0_i32_723
  let c1_i32_724 : BitVec 32 := 1#32
  let v1103 : BitVec 32 := Scalar.select v1102 c1_i32_724 c32_i32_722
  let v1104 : BitVec 32 := Scalar.remsi v1101 v1103
  let c0_i32_726 : BitVec 32 := 0#32
  let v1106 : BitVec 1 := Scalar.cmpi .slt v1104 c0_i32_726
  let c0_i32_727 : BitVec 32 := 0#32
  let v1107 : BitVec 1 := Scalar.cmpi .slt v1103 c0_i32_727
  let v1108 : BitVec 1 := Scalar.xori v1106 v1107
  let c0_i32_725 : BitVec 32 := 0#32
  let v1105 : BitVec 1 := Scalar.cmpi .ne v1104 c0_i32_725
  let v1109 : BitVec 1 := Scalar.andi v1108 v1105
  let v1110 : BitVec 32 := Scalar.addi v1104 v1103
  let v1111 : BitVec 32 := Scalar.select v1109 v1110 v1104
  let c1_i32_729 : BitVec 32 := 1#32
  let v1112 : BitVec 32 := Scalar.muli v1111 c1_i32_729
  let v1113 : BitVec 32 := Scalar.addi c0_i32_730 v1112
  v1113.toNat
def k0_dev55 (d0 : Dev nD) : Nat :=
  let c0_i32_744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_735 : BitVec 32 := 24#32
  let v1122 : BitVec 32 := Scalar.addi v2 c24_i32_735
  let c32_i32_736 : BitVec 32 := 32#32
  let c0_i32_737 : BitVec 32 := 0#32
  let v1123 : BitVec 1 := Scalar.cmpi .eq c32_i32_736 c0_i32_737
  let c1_i32_738 : BitVec 32 := 1#32
  let v1124 : BitVec 32 := Scalar.select v1123 c1_i32_738 c32_i32_736
  let v1125 : BitVec 32 := Scalar.remsi v1122 v1124
  let c0_i32_740 : BitVec 32 := 0#32
  let v1127 : BitVec 1 := Scalar.cmpi .slt v1125 c0_i32_740
  let c0_i32_741 : BitVec 32 := 0#32
  let v1128 : BitVec 1 := Scalar.cmpi .slt v1124 c0_i32_741
  let v1129 : BitVec 1 := Scalar.xori v1127 v1128
  let c0_i32_739 : BitVec 32 := 0#32
  let v1126 : BitVec 1 := Scalar.cmpi .ne v1125 c0_i32_739
  let v1130 : BitVec 1 := Scalar.andi v1129 v1126
  let v1131 : BitVec 32 := Scalar.addi v1125 v1124
  let v1132 : BitVec 32 := Scalar.select v1130 v1131 v1125
  let c1_i32_743 : BitVec 32 := 1#32
  let v1133 : BitVec 32 := Scalar.muli v1132 c1_i32_743
  let v1134 : BitVec 32 := Scalar.addi c0_i32_744 v1133
  v1134.toNat
def k0_dev56 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_749 : BitVec 32 := 25#32
  let v1143 : BitVec 32 := Scalar.addi v2 c25_i32_749
  let c32_i32_750 : BitVec 32 := 32#32
  let c0_i32_751 : BitVec 32 := 0#32
  let v1144 : BitVec 1 := Scalar.cmpi .eq c32_i32_750 c0_i32_751
  let c1_i32_752 : BitVec 32 := 1#32
  let v1145 : BitVec 32 := Scalar.select v1144 c1_i32_752 c32_i32_750
  let v1146 : BitVec 32 := Scalar.remsi v1143 v1145
  let c0_i32_754 : BitVec 32 := 0#32
  let v1148 : BitVec 1 := Scalar.cmpi .slt v1146 c0_i32_754
  let c0_i32_755 : BitVec 32 := 0#32
  let v1149 : BitVec 1 := Scalar.cmpi .slt v1145 c0_i32_755
  let v1150 : BitVec 1 := Scalar.xori v1148 v1149
  let c0_i32_753 : BitVec 32 := 0#32
  let v1147 : BitVec 1 := Scalar.cmpi .ne v1146 c0_i32_753
  let v1151 : BitVec 1 := Scalar.andi v1150 v1147
  let v1152 : BitVec 32 := Scalar.addi v1146 v1145
  let v1153 : BitVec 32 := Scalar.select v1151 v1152 v1146
  let c1_i32_757 : BitVec 32 := 1#32
  let v1154 : BitVec 32 := Scalar.muli v1153 c1_i32_757
  let v1155 : BitVec 32 := Scalar.addi c0_i32_758 v1154
  v1155.toNat
def k0_dev57 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_763 : BitVec 32 := 26#32
  let v1164 : BitVec 32 := Scalar.addi v2 c26_i32_763
  let c32_i32_764 : BitVec 32 := 32#32
  let c0_i32_765 : BitVec 32 := 0#32
  let v1165 : BitVec 1 := Scalar.cmpi .eq c32_i32_764 c0_i32_765
  let c1_i32_766 : BitVec 32 := 1#32
  let v1166 : BitVec 32 := Scalar.select v1165 c1_i32_766 c32_i32_764
  let v1167 : BitVec 32 := Scalar.remsi v1164 v1166
  let c0_i32_768 : BitVec 32 := 0#32
  let v1169 : BitVec 1 := Scalar.cmpi .slt v1167 c0_i32_768
  let c0_i32_769 : BitVec 32 := 0#32
  let v1170 : BitVec 1 := Scalar.cmpi .slt v1166 c0_i32_769
  let v1171 : BitVec 1 := Scalar.xori v1169 v1170
  let c0_i32_767 : BitVec 32 := 0#32
  let v1168 : BitVec 1 := Scalar.cmpi .ne v1167 c0_i32_767
  let v1172 : BitVec 1 := Scalar.andi v1171 v1168
  let v1173 : BitVec 32 := Scalar.addi v1167 v1166
  let v1174 : BitVec 32 := Scalar.select v1172 v1173 v1167
  let c1_i32_771 : BitVec 32 := 1#32
  let v1175 : BitVec 32 := Scalar.muli v1174 c1_i32_771
  let v1176 : BitVec 32 := Scalar.addi c0_i32_772 v1175
  v1176.toNat
def k0_dev58 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_777 : BitVec 32 := 27#32
  let v1185 : BitVec 32 := Scalar.addi v2 c27_i32_777
  let c32_i32_778 : BitVec 32 := 32#32
  let c0_i32_779 : BitVec 32 := 0#32
  let v1186 : BitVec 1 := Scalar.cmpi .eq c32_i32_778 c0_i32_779
  let c1_i32_780 : BitVec 32 := 1#32
  let v1187 : BitVec 32 := Scalar.select v1186 c1_i32_780 c32_i32_778
  let v1188 : BitVec 32 := Scalar.remsi v1185 v1187
  let c0_i32_782 : BitVec 32 := 0#32
  let v1190 : BitVec 1 := Scalar.cmpi .slt v1188 c0_i32_782
  let c0_i32_783 : BitVec 32 := 0#32
  let v1191 : BitVec 1 := Scalar.cmpi .slt v1187 c0_i32_783
  let v1192 : BitVec 1 := Scalar.xori v1190 v1191
  let c0_i32_781 : BitVec 32 := 0#32
  let v1189 : BitVec 1 := Scalar.cmpi .ne v1188 c0_i32_781
  let v1193 : BitVec 1 := Scalar.andi v1192 v1189
  let v1194 : BitVec 32 := Scalar.addi v1188 v1187
  let v1195 : BitVec 32 := Scalar.select v1193 v1194 v1188
  let c1_i32_785 : BitVec 32 := 1#32
  let v1196 : BitVec 32 := Scalar.muli v1195 c1_i32_785
  let v1197 : BitVec 32 := Scalar.addi c0_i32_786 v1196
  v1197.toNat
def k0_dev59 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_791 : BitVec 32 := 28#32
  let v1206 : BitVec 32 := Scalar.addi v2 c28_i32_791
  let c32_i32_792 : BitVec 32 := 32#32
  let c0_i32_793 : BitVec 32 := 0#32
  let v1207 : BitVec 1 := Scalar.cmpi .eq c32_i32_792 c0_i32_793
  let c1_i32_794 : BitVec 32 := 1#32
  let v1208 : BitVec 32 := Scalar.select v1207 c1_i32_794 c32_i32_792
  let v1209 : BitVec 32 := Scalar.remsi v1206 v1208
  let c0_i32_796 : BitVec 32 := 0#32
  let v1211 : BitVec 1 := Scalar.cmpi .slt v1209 c0_i32_796
  let c0_i32_797 : BitVec 32 := 0#32
  let v1212 : BitVec 1 := Scalar.cmpi .slt v1208 c0_i32_797
  let v1213 : BitVec 1 := Scalar.xori v1211 v1212
  let c0_i32_795 : BitVec 32 := 0#32
  let v1210 : BitVec 1 := Scalar.cmpi .ne v1209 c0_i32_795
  let v1214 : BitVec 1 := Scalar.andi v1213 v1210
  let v1215 : BitVec 32 := Scalar.addi v1209 v1208
  let v1216 : BitVec 32 := Scalar.select v1214 v1215 v1209
  let c1_i32_799 : BitVec 32 := 1#32
  let v1217 : BitVec 32 := Scalar.muli v1216 c1_i32_799
  let v1218 : BitVec 32 := Scalar.addi c0_i32_800 v1217
  v1218.toNat
def k0_dev60 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_805 : BitVec 32 := 29#32
  let v1227 : BitVec 32 := Scalar.addi v2 c29_i32_805
  let c32_i32_806 : BitVec 32 := 32#32
  let c0_i32_807 : BitVec 32 := 0#32
  let v1228 : BitVec 1 := Scalar.cmpi .eq c32_i32_806 c0_i32_807
  let c1_i32_808 : BitVec 32 := 1#32
  let v1229 : BitVec 32 := Scalar.select v1228 c1_i32_808 c32_i32_806
  let v1230 : BitVec 32 := Scalar.remsi v1227 v1229
  let c0_i32_810 : BitVec 32 := 0#32
  let v1232 : BitVec 1 := Scalar.cmpi .slt v1230 c0_i32_810
  let c0_i32_811 : BitVec 32 := 0#32
  let v1233 : BitVec 1 := Scalar.cmpi .slt v1229 c0_i32_811
  let v1234 : BitVec 1 := Scalar.xori v1232 v1233
  let c0_i32_809 : BitVec 32 := 0#32
  let v1231 : BitVec 1 := Scalar.cmpi .ne v1230 c0_i32_809
  let v1235 : BitVec 1 := Scalar.andi v1234 v1231
  let v1236 : BitVec 32 := Scalar.addi v1230 v1229
  let v1237 : BitVec 32 := Scalar.select v1235 v1236 v1230
  let c1_i32_813 : BitVec 32 := 1#32
  let v1238 : BitVec 32 := Scalar.muli v1237 c1_i32_813
  let v1239 : BitVec 32 := Scalar.addi c0_i32_814 v1238
  v1239.toNat
def k0_dev61 (d0 : Dev nD) : Nat :=
  let c0_i32_828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_819 : BitVec 32 := 30#32
  let v1248 : BitVec 32 := Scalar.addi v2 c30_i32_819
  let c32_i32_820 : BitVec 32 := 32#32
  let c0_i32_821 : BitVec 32 := 0#32
  let v1249 : BitVec 1 := Scalar.cmpi .eq c32_i32_820 c0_i32_821
  let c1_i32_822 : BitVec 32 := 1#32
  let v1250 : BitVec 32 := Scalar.select v1249 c1_i32_822 c32_i32_820
  let v1251 : BitVec 32 := Scalar.remsi v1248 v1250
  let c0_i32_824 : BitVec 32 := 0#32
  let v1253 : BitVec 1 := Scalar.cmpi .slt v1251 c0_i32_824
  let c0_i32_825 : BitVec 32 := 0#32
  let v1254 : BitVec 1 := Scalar.cmpi .slt v1250 c0_i32_825
  let v1255 : BitVec 1 := Scalar.xori v1253 v1254
  let c0_i32_823 : BitVec 32 := 0#32
  let v1252 : BitVec 1 := Scalar.cmpi .ne v1251 c0_i32_823
  let v1256 : BitVec 1 := Scalar.andi v1255 v1252
  let v1257 : BitVec 32 := Scalar.addi v1251 v1250
  let v1258 : BitVec 32 := Scalar.select v1256 v1257 v1251
  let c1_i32_827 : BitVec 32 := 1#32
  let v1259 : BitVec 32 := Scalar.muli v1258 c1_i32_827
  let v1260 : BitVec 32 := Scalar.addi c0_i32_828 v1259
  v1260.toNat
def k0_dev62 (d0 : Dev nD) : Nat :=
  let c0_i32_842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_833 : BitVec 32 := 31#32
  let v1269 : BitVec 32 := Scalar.addi v2 c31_i32_833
  let c32_i32_834 : BitVec 32 := 32#32
  let c0_i32_835 : BitVec 32 := 0#32
  let v1270 : BitVec 1 := Scalar.cmpi .eq c32_i32_834 c0_i32_835
  let c1_i32_836 : BitVec 32 := 1#32
  let v1271 : BitVec 32 := Scalar.select v1270 c1_i32_836 c32_i32_834
  let v1272 : BitVec 32 := Scalar.remsi v1269 v1271
  let c0_i32_838 : BitVec 32 := 0#32
  let v1274 : BitVec 1 := Scalar.cmpi .slt v1272 c0_i32_838
  let c0_i32_839 : BitVec 32 := 0#32
  let v1275 : BitVec 1 := Scalar.cmpi .slt v1271 c0_i32_839
  let v1276 : BitVec 1 := Scalar.xori v1274 v1275
  let c0_i32_837 : BitVec 32 := 0#32
  let v1273 : BitVec 1 := Scalar.cmpi .ne v1272 c0_i32_837
  let v1277 : BitVec 1 := Scalar.andi v1276 v1273
  let v1278 : BitVec 32 := Scalar.addi v1272 v1271
  let v1279 : BitVec 32 := Scalar.select v1277 v1278 v1272
  let c1_i32_841 : BitVec 32 := 1#32
  let v1280 : BitVec 32 := Scalar.muli v1279 c1_i32_841
  let v1281 : BitVec 32 := Scalar.addi c0_i32_842 v1280
  v1281.toNat
def k0_off4 (d0 : Dev nD) (c1_i32_847 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1290 : BitVec 32 := Scalar.addi v2 c1_i32_847
  let c32_i32_848 : BitVec 32 := 32#32
  let c0_i32_849 : BitVec 32 := 0#32
  let v1291 : BitVec 1 := Scalar.cmpi .eq c32_i32_848 c0_i32_849
  let c1_i32_850 : BitVec 32 := 1#32
  let v1292 : BitVec 32 := Scalar.select v1291 c1_i32_850 c32_i32_848
  let v1293 : BitVec 32 := Scalar.remsi v1290 v1292
  let c0_i32_852 : BitVec 32 := 0#32
  let v1295 : BitVec 1 := Scalar.cmpi .slt v1293 c0_i32_852
  let c0_i32_853 : BitVec 32 := 0#32
  let v1296 : BitVec 1 := Scalar.cmpi .slt v1292 c0_i32_853
  let v1297 : BitVec 1 := Scalar.xori v1295 v1296
  let c0_i32_851 : BitVec 32 := 0#32
  let v1294 : BitVec 1 := Scalar.cmpi .ne v1293 c0_i32_851
  let v1298 : BitVec 1 := Scalar.andi v1297 v1294
  let v1299 : BitVec 32 := Scalar.addi v1293 v1292
  let v1300 : BitVec 32 := Scalar.select v1298 v1299 v1293
  ![v1300.toNat]
abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Loops.lean ====
/-
# The kernel's body as five loops

The printed body is one straight line of some two hundred memory operations. It is five loops written out: the signals to
the other devices, the stores of the tiles, the transfers, the waits for what the others send, the waits for the own
transfers. This module writes each of them as a recursion over a list and states that the printed body is their sequence
(`body_loops`). Each loop takes the program that follows it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.SL.Sem

universe u

variable {F : FTy → Type} [FloatOps F]

/-- Programs of this kernel. -/
abbrev KProg (F : FTy → Type) : Type 1 := Prog (TpuEff nD τ sig (Elt F) Λ₀ .tc) PUnit

/-- The barrier semaphore of the collective. -/
abbrev barS : Sem sig := (SemArray.scalar (sig.barrier 0 rfl) : Sems sig S_).sem

/-- The devices the kernel signals, in its order. -/
def sigList (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩,
   ⟨k0_dev5 c, k0_dev5_lt c⟩, ⟨k0_dev6 c, k0_dev6_lt c⟩, ⟨k0_dev7 c, k0_dev7_lt c⟩, ⟨k0_dev8 c, k0_dev8_lt c⟩,
   ⟨k0_dev9 c, k0_dev9_lt c⟩, ⟨k0_dev10 c, k0_dev10_lt c⟩, ⟨k0_dev11 c, k0_dev11_lt c⟩, ⟨k0_dev12 c, k0_dev12_lt c⟩,
   ⟨k0_dev13 c, k0_dev13_lt c⟩, ⟨k0_dev14 c, k0_dev14_lt c⟩, ⟨k0_dev15 c, k0_dev15_lt c⟩, ⟨k0_dev16 c, k0_dev16_lt c⟩,
   ⟨k0_dev17 c, k0_dev17_lt c⟩, ⟨k0_dev18 c, k0_dev18_lt c⟩, ⟨k0_dev19 c, k0_dev19_lt c⟩, ⟨k0_dev20 c, k0_dev20_lt c⟩,
   ⟨k0_dev21 c, k0_dev21_lt c⟩, ⟨k0_dev22 c, k0_dev22_lt c⟩, ⟨k0_dev23 c, k0_dev23_lt c⟩, ⟨k0_dev24 c, k0_dev24_lt c⟩,
   ⟨k0_dev25 c, k0_dev25_lt c⟩, ⟨k0_dev26 c, k0_dev26_lt c⟩, ⟨k0_dev27 c, k0_dev27_lt c⟩, ⟨k0_dev28 c, k0_dev28_lt c⟩,
   ⟨k0_dev29 c, k0_dev29_lt c⟩, ⟨k0_dev30 c, k0_dev30_lt c⟩, ⟨k0_dev31 c, k0_dev31_lt c⟩]

/-- The transfers, in the kernel's order: the step (one less than the shift) and the device addressed. -/
def sendList (c : Dev nD) : List (Fin 31 × Dev nD) :=
  [(0, ⟨k0_dev32 c, k0_dev32_lt c⟩), (1, ⟨k0_dev33 c, k0_dev33_lt c⟩), (2, ⟨k0_dev34 c, k0_dev34_lt c⟩), (3, ⟨k0_dev35 c, k0_dev35_lt c⟩),
   (4, ⟨k0_dev36 c, k0_dev36_lt c⟩), (5, ⟨k0_dev37 c, k0_dev37_lt c⟩), (6, ⟨k0_dev38 c, k0_dev38_lt c⟩), (7, ⟨k0_dev39 c, k0_dev39_lt c⟩),
   (8, ⟨k0_dev40 c, k0_dev40_lt c⟩), (9, ⟨k0_dev41 c, k0_dev41_lt c⟩), (10, ⟨k0_dev42 c, k0_dev42_lt c⟩), (11, ⟨k0_dev43 c, k0_dev43_lt c⟩),
   (12, ⟨k0_dev44 c, k0_dev44_lt c⟩), (13, ⟨k0_dev45 c, k0_dev45_lt c⟩), (14, ⟨k0_dev46 c, k0_dev46_lt c⟩), (15, ⟨k0_dev47 c, k0_dev47_lt c⟩),
   (16, ⟨k0_dev48 c, k0_dev48_lt c⟩), (17, ⟨k0_dev49 c, k0_dev49_lt c⟩), (18, ⟨k0_dev50 c, k0_dev50_lt c⟩), (19, ⟨k0_dev51 c, k0_dev51_lt c⟩),
   (20, ⟨k0_dev52 c, k0_dev52_lt c⟩), (21, ⟨k0_dev53 c, k0_dev53_lt c⟩), (22, ⟨k0_dev54 c, k0_dev54_lt c⟩), (23, ⟨k0_dev55 c, k0_dev55_lt c⟩),
   (24, ⟨k0_dev56 c, k0_dev56_lt c⟩), (25, ⟨k0_dev57 c, k0_dev57_lt c⟩), (26, ⟨k0_dev58 c, k0_dev58_lt c⟩), (27, ⟨k0_dev59 c, k0_dev59_lt c⟩),
   (28, ⟨k0_dev60 c, k0_dev60_lt c⟩), (29, ⟨k0_dev61 c, k0_dev61_lt c⟩), (30, ⟨k0_dev62 c, k0_dev62_lt c⟩)]

/-- The steps of a wait loop. -/
def stepList : List (Fin 31) :=
  [0, 1, 2, 3, 4, 5, 6, 7, 8, 9, 10, 11, 12, 13, 14, 15,
   16, 17, 18, 19, 20, 21, 22, 23, 24, 25, 26, 27, 28, 29, 30]

/-- The tiles, in order. -/
def tileList : List (Fin 32) :=
  [0, 1, 2, 3, 4, 5, 6, 7, 8, 9, 10, 11, 12, 13, 14, 15,
   16, 17, 18, 19, 20, 21, 22, 23, 24, 25, 26, 27, 28, 29, 30, 31]

/-- One unit to the barrier semaphore of each device of the list. -/
def signals : List (Dev nD) → KProg F → KProg F
  | [], k => k
  | d :: l, k => Prog.op (.semSignal (d, .tc) barS (1#32 : BitVec 32).toInt) fun _ => signals l k

theorem tile_inb (t : Fin 32) : ∀ a, (![t.val, 0, 0] : Fin 3 → Nat) a + S1x64x64.size a ≤ S32x64x64.size a := by
  revert t; decide

theorem tile_packed (t : Fin 32) :
    (Rect.unit (s := S32x64x64) ![t.val, 0, 0] S1x64x64.size (tile_inb t)).PackedRows (EltTy.packing .bf16) := by
  revert t; decide

theorem tile_slices (t : Fin 32) : S64x2048.Slices ![0, 64 * t.val] S64x64 := by
  revert t; decide

/-- Slot `t` of a buffer of thirty-two slots. -/
abbrev tileRect (t : Fin 32) : Rect S32x64x64 :=
  Rect.unit (s := S32x64x64) ![t.val, 0, 0] S1x64x64.size (tile_inb t)

/-- Tile `t`: columns `64 t` to `64 t + 63` of the product. -/
def tilePay (p : FVec F S64x2048 .bf16) (t : Fin 32) : FVec F S1x64x64 .bf16 :=
  shapeCast S1x64x64 (extractStridedSlice S64x64 ![0, 64 * t.val] p (tile_slices t)) shapeCasts_S64x64_S1x64x64

/-- The kernel's test that tile `t` is the device's own. -/
def ownBit (c : Dev nD) (t : Fin 32) : BitVec 1 :=
  Scalar.cmpi .ne (Scalar.extui (Scalar.cmpi .eq (Scalar.remsi (Scalar.divsi (Dev.word c) 1#32) 32#32) (BitVec.ofNat 32 t.val)) : BitVec 32) 0#32

section Body
variable (arg0 : Memref sig .tc .vmem S64x2048 .bf16) (harg0 : arg0.IsWhole) (arg1 : Memref sig .tc .vmem S2048x2048 .bf16) (harg1 : arg1.IsWhole)
  (arg2 : Memref sig .tc .vmem S2048x64 .f32) (harg2 : arg2.IsWhole) (arg3 : Memref sig .tc .vmem S32x64x64 .bf16) (harg3 : arg3.IsWhole)
  (arg4 : Memref sig .tc .vmem S32x64x64 .bf16) (harg4 : arg4.IsWhole) (arg5 : DmaSems sig S32) (arg6 : DmaSems sig S32)

/-- A read and a write, if `b`. -/
def readWriteIf {E : Type → Type u} {A B : Type} (b : Prop) [Decidable b] (e₁ : E A) (e₂ : E B) : Prog E PUnit :=
  if b then .op e₁ fun _ => .op e₂ fun _ => .ret ⟨⟩ else .ret ⟨⟩

/-- A conditional whose two branches go on with the same program is that condition followed by the program. -/
theorem readWriteIf_bind {E : Type → Type u} {A B C : Type} (b : Prop) [Decidable b] (e₁ : E A) (e₂ : E B) (k : Prog E C) :
    (if h : b then Prog.op e₁ fun _ => Prog.op e₂ fun _ => k else k) = (readWriteIf b e₁ e₂ >>= fun _ => k) := by
  unfold readWriteIf
  split <;> rfl

/-- Store tile `t` in slot `t` of `a` (the kernel reads the slot first and drops what it read). -/
def putTile (a : Memref sig .tc .vmem S32x64x64 .bf16) (ha : a.IsWhole) (p : FVec F S64x2048 .bf16) (t : Fin 32) (k : KProg F) : KProg F :=
  Prog.op (.load a (tileRect t).toLoadRect (View.loadsAt_vmem h_S1x64x64)) fun _ =>
  Prog.op (.store a (tileRect t) (tilePay p t) Finset.univ
    (View.stores_vmem h_S1x64x64 (ha.storeExact_slice rfl _ (tile_packed t)) (fun _ => rfl)) (.inl rfl)) fun _ => k

/-- The tiles of the list: each stored in its slot of the send buffer, the device's own also in its slot of the receive buffer. -/
def tiles (c : Dev nD) (p : FVec F S64x2048 .bf16) : List (Fin 32) → KProg F → KProg F
  | [], k => k
  | t :: l, k => putTile arg3 harg3 p t <|
      readWriteIf (E := TpuEff nD τ sig (Elt F) Λ₀ .tc) (ownBit c t = 1#1) (.load arg4 (tileRect t).toLoadRect (View.loadsAt_vmem h_S1x64x64))
        (.store arg4 (tileRect t) (tilePay p t) Finset.univ
          (View.stores_vmem h_S1x64x64 (harg4.storeExact_slice rfl _ (tile_packed t)) (fun _ => rfl)) (.inl rfl))
      >>= fun _ => tiles c p l k

/-- The slot of `a` a transfer of step `r` reads or a wait of step `r` names. -/
abbrev stepSlot (a : Memref sig .tc .vmem S32x64x64 .bf16) (c : Dev nD) (r : Fin 31) : Memref sig .tc .vmem S64x64 .bf16 :=
  (a.slice (Rect.unit (s := S32x64x64) (k0_off3 c (BitVec.ofNat 32 (1 + r.val))) S1x64x64.size (k0_off3_inb c r)) (fun _ => rfl)).squeeze
    S64x64 squeezes_S1x64x64_S64x64

/-- The slot of `a` of the device's own number. -/
abbrev ownSlot (a : Memref sig .tc .vmem S32x64x64 .bf16) (c : Dev nD) : Memref sig .tc .vmem S64x64 .bf16 :=
  (a.slice (Rect.unit (s := S32x64x64) (k0_off2 c) S1x64x64.size (k0_off2_inb c)) (fun _ => rfl)).squeeze
    S64x64 squeezes_S1x64x64_S64x64

theorem stepSem_inb (r : Fin 31) : ∀ a, (![1 + r.val] : Fin 1 → Nat) a + S1.size a ≤ S32.size a := by
  revert r; decide

/-- The send semaphore of step `r`. -/
abbrev stepSend (r : Fin 31) : DmaSems sig S_ :=
  (arg5.slice (Rect.unit (s := S32) ![1 + r.val] S1.size (stepSem_inb r))).squeeze S_ squeezes_S1_S_

/-- The receive semaphore of the device's own number: the one its transfers signal on the device addressed. -/
abbrev ownRecv (c : Dev nD) : DmaSems sig S_ :=
  (arg6.slice (Rect.unit (s := S32) (k0_off1 c) S1.size (k0_off1_inb c))).squeeze S_ squeezes_S1_S_

/-- The receive semaphore a wait of step `r` waits on. -/
abbrev stepRecv (c : Dev nD) (r : Fin 31) : DmaSems sig S_ :=
  (arg6.slice (Rect.unit (s := S32) (k0_off4 c (BitVec.ofNat 32 (1 + r.val))) S1.size (k0_off4_inb c r))).squeeze S_ squeezes_S1_S_

/-- The transfers of the list. -/
def sends (c : Dev nD) : List (Fin 31 × Dev nD) → KProg F → KProg F
  | [], k => k
  | (r, d) :: l, k =>
    Prog.op (.enqueueDma (stepSlot arg3 c r) (.remote (Dev.tc d) (ownSlot arg4 c) (.dma (stepSend arg5 r).sem)) (.dma (ownRecv arg6 c).sem)
      ((harg3.wordExact_slice rfl _ (k0_off3_wordsbf16 c r)).reshape _ _) ((harg4.wordExact_slice rfl _ (k0_off2_wordsbf16 c)).reshape _ _)
      ⟨⟨rfl, Or.inl rfl⟩, trivial⟩) fun _ => sends c l k

/-- The waits for what the other devices send. -/
def recvs (c : Dev nD) : List (Fin 31) → KProg F → KProg F
  | [], k => k
  | r :: l, k =>
    Prog.op (.waitDma2 (stepRecv arg6 c r).sem (stepSlot arg3 c r) (stepSlot arg4 c r)
      ((harg3.wordExact_slice rfl _ (k0_off3_wordsbf16 c r)).reshape _ _) ((harg4.wordExact_slice rfl _ (k0_off3_wordsbf16 c r)).reshape _ _))
      fun _ => recvs c l k

/-- The waits for the own transfers to have left. -/
def drains (c : Dev nD) : List (Fin 31) → KProg F → KProg F
  | [], k => k
  | r :: l, k =>
    Prog.op (.waitDma2 (stepSend arg5 r).sem (ownSlot arg4 c) (stepSlot arg3 c r)
      ((harg4.wordExact_slice rfl _ (k0_off2_wordsbf16 c)).reshape _ _) ((harg3.wordExact_slice rfl _ (k0_off3_wordsbf16 c r)).reshape _ _))
      fun _ => drains c l k

/-- The whole receive buffer read and stored, as float32, in the result's staging buffer. -/
def copyOut (k : KProg F) : KProg F :=
  Prog.op (.load arg4 (Rect.unit (s := S32x64x64) ![0, 0, 0] S32x64x64.size inb_S32x64x64_S32x64x64_0_0_0).toLoadRect (View.loadsAt_vmem h_S32x64x64)) fun v =>
  Prog.op (.load arg2 (Rect.unit (s := S2048x64) ![0, 0] S2048x64.size inb_S2048x64_S2048x64_0_0).toLoadRect (View.loadsAt_vmem h_S2048x64)) fun _ =>
  Prog.op (.store arg2 (Rect.unit (s := S2048x64) ![0, 0] S2048x64.size inb_S2048x64_S2048x64_0_0) (k0_pay98 v) Finset.univ
    (View.stores_vmem_bits_univ h_S2048x64 rfl) (.inl rfl)) fun _ => k

/-- The body of device `c` as its loops. -/
def loops (c : Dev nD) : KProg F :=
  signals (sigList c) <|
  Prog.op (.load arg0 (Rect.unit (s := S64x2048) ![0, 0] S64x2048.size inb_S64x2048_S64x2048_0_0).toLoadRect (View.loadsAt_vmem h_S64x2048)) fun x =>
  Prog.op (.load arg1 (Rect.unit (s := S2048x2048) ![0, 0] S2048x2048.size inb_S2048x2048_S2048x2048_0_0).toLoadRect (View.loadsAt_vmem h_S2048x2048)) fun w =>
  tiles arg3 harg3 arg4 harg4 c (k0_pay1 x w) tileList <|
  Prog.op (.semWait barS (31#32 : BitVec 32).toInt) fun _ =>
  sends arg3 harg3 arg4 harg4 arg5 arg6 c (sendList c) <|
  recvs arg3 harg3 arg4 harg4 arg6 c stepList <|
  copyOut arg2 arg4 <|
  drains arg3 harg3 arg4 harg4 arg5 c stepList (Prog.ret ⟨⟩)

set_option maxRecDepth 65536 in
set_option maxHeartbeats 4000000 in
/-- The printed body is: read the device's number, then its loops. -/
theorem body_loops :
    (cc0_body arg0 harg0 arg1 harg1 arg2 harg2 arg3 harg3 arg4 harg4 arg5 arg6 : KProg F)
      = Prog.op .deviceId fun c => loops arg0 arg1 arg2 arg3 harg3 arg4 harg4 arg5 arg6 c := by
  rw [cc0_body_eq_skeleton]
  simp only [cc0_body_skel, k0_part64_eq_skeleton, k0_part64_skel, k0_part63_eq_skeleton, k0_part63_skel, k0_part62_eq_skeleton,
    k0_part62_skel, k0_part61_eq_skeleton, k0_part61_skel, k0_part60_eq_skeleton, k0_part60_skel,
    k0_part59_eq_skeleton, k0_part59_skel, k0_part58_eq_skeleton, k0_part58_skel, k0_part57_eq_skeleton,
    k0_part57_skel, k0_part56_eq_skeleton, k0_part56_skel, k0_part55_eq_skeleton, k0_part55_skel,
    k0_part54_eq_skeleton, k0_part54_skel, k0_part53_eq_skeleton, k0_part53_skel, k0_part52_eq_skeleton,
    k0_part52_skel, k0_part51_eq_skeleton, k0_part51_skel, k0_part50_eq_skeleton, k0_part50_skel,
    k0_part49_eq_skeleton, k0_part49_skel, k0_part48_eq_skeleton, k0_part48_skel, k0_part47_eq_skeleton,
    k0_part47_skel, k0_part46_eq_skeleton, k0_part46_skel, k0_part45_eq_skeleton, k0_part45_skel,
    k0_part44_eq_skeleton, k0_part44_skel, k0_part43_eq_skeleton, k0_part43_skel, k0_part42_eq_skeleton,
    k0_part42_skel, k0_part41_eq_skeleton, k0_part41_skel, k0_part40_eq_skeleton, k0_part40_skel,
    k0_part39_eq_skeleton, k0_part39_skel, k0_part38_eq_skeleton, k0_part38_skel, k0_part37_eq_skeleton,
    k0_part37_skel, k0_part36_eq_skeleton, k0_part36_skel, k0_part35_eq_skeleton, k0_part35_skel,
    k0_part34_eq_skeleton, k0_part34_skel, k0_part33_eq_skeleton, k0_part33_skel, k0_part32_eq_skeleton,
    k0_part32_skel, k0_part31_eq_skeleton, k0_part31_skel, k0_part30_eq_skeleton, k0_part30_skel,
    k0_part29_eq_skeleton, k0_part29_skel, k0_part28_eq_skeleton, k0_part28_skel, k0_part27_eq_skeleton,
    k0_part27_skel, k0_part26_eq_skeleton, k0_part26_skel, k0_part25_eq_skeleton, k0_part25_skel,
    k0_part24_eq_skeleton, k0_part24_skel, k0_part23_eq_skeleton, k0_part23_skel, k0_part22_eq_skeleton,
    k0_part22_skel, k0_part21_eq_skeleton, k0_part21_skel, k0_part20_eq_skeleton, k0_part20_skel,
    k0_part19_eq_skeleton, k0_part19_skel, k0_part18_eq_skeleton, k0_part18_skel, k0_part17_eq_skeleton,
    k0_part17_skel, k0_part16_eq_skeleton, k0_part16_skel, k0_part15_eq_skeleton, k0_part15_skel,
    k0_part14_eq_skeleton, k0_part14_skel, k0_part13_eq_skeleton, k0_part13_skel, k0_part12_eq_skeleton,
    k0_part12_skel, k0_part11_eq_skeleton, k0_part11_skel, k0_part10_eq_skeleton, k0_part10_skel,
    k0_part9_eq_skeleton, k0_part9_skel, k0_part8_eq_skeleton, k0_part8_skel, k0_part7_eq_skeleton, k0_part7_skel,
    k0_part6_eq_skeleton, k0_part6_skel, k0_part5_eq_skeleton, k0_part5_skel, k0_part4_eq_skeleton, k0_part4_skel,
    k0_part3_eq_skeleton, k0_part3_skel, k0_part2_eq_skeleton, k0_part2_skel, k0_part1_eq_skeleton, k0_part1_skel,
    semSignalWord, semWaitWord, Prog.lift, Prog.bind_op, Prog.bind_ret, Prog.pure_eq_ret, readWriteIf_bind, bind_assoc]
  chain_rfl

end Body

end Cert.AllToAll

end
-- ==== Proof.Slots.lean ====
/-
# The slots of the two scratch buffers and what they hold

Each device has a send buffer and a receive buffer of thirty-two slots, one for each device. Slot `t` of device `c`'s send
buffer holds tile `t` of its product (its columns `64 t` to `64 t + 63`); slot `s` of its receive buffer holds, at the end,
device `s`'s tile `c`. The contents are stated once for a whole buffer; a slot is a set of the buffer's indices, and each
write of the kernel is shown to give the stated contents on the slot it writes.
-/
module

public import proofs.«01_k».proof.Proof.Loops
public import Idealize.ShloMosaic.Lib.ValueLayout

@[expose] public section

noncomputable section

namespace Cert.AllToAll

open Cert.KernelIdeal Cert.KernelIdeal.Gen
open Idealize.ShloMosaic Idealize.ShloMosaic.ValueIdx

variable {F : FTy → Type} [FloatOps F]

/-! ## The devices in step order -/

set_option backward.proofsInPublic true in
/-- The device `r + 1` places after `c`. -/
def sh (c : Dev nD) (r : Fin 31) : Dev nD := ⟨(c.val + r.val + 1) % 32, Nat.mod_lt _ (by decide)⟩

/-- All the other devices, in the order in which device `c` addresses them. -/
def others (c : Dev nD) : List (Dev nD) := stepList.map (sh c)

theorem sh_ne (c : Dev nD) (r : Fin 31) : sh c r ≠ c := by
  intro h
  have h := congrArg Fin.val h
  have hc : c.val < 32 := c.isLt
  have hr := r.isLt
  simp only [sh] at h
  omega

theorem sh_injective (c : Dev nD) : Function.Injective (sh c) := by
  intro r r' h
  have h := congrArg Fin.val h
  have hc : c.val < 32 := c.isLt
  have hr := r.isLt
  have hr' := r'.isLt
  simp only [sh] at h
  exact Fin.ext (by omega)

theorem others_nodup (c : Dev nD) : (others c).Nodup :=
  (show stepList.Nodup by decide).map (sh_injective c)

theorem mem_others {c d : Dev nD} : d ∈ others c ↔ d ≠ c := by
  unfold others
  rw [List.mem_map]
  constructor
  · rintro ⟨r, -, rfl⟩
    exact sh_ne c r
  · intro h
    have hc : c.val < 32 := c.isLt
    have hd : d.val < 32 := d.isLt
    have hne : d.val ≠ c.val := fun h' => h (Fin.ext h')
    refine ⟨⟨(d.val + 31 - c.val) % 32, by omega⟩, ?_, Fin.ext ?_⟩
    · exact (show ∀ r : Fin 31, r ∈ stepList by decide) _
    · simp only [sh]
      omega

theorem sigList_eq (c : Dev nD) : sigList c = others c := by
  revert c; decide +kernel

theorem sendList_eq (c : Dev nD) : sendList c = stepList.map fun r => (r, sh c r) := by
  revert c; decide +kernel

theorem ownBit_iff (c : Dev nD) (t : Fin 32) : ownBit c t = 1#1 ↔ t = c := by
  revert c t; decide +kernel

/-! ## The semaphores of the transfers -/

/-- The `k`-th send semaphore. -/
def sendSem (k : Fin 32) : DmaSem sig := ⟨3 + k.val, by have := k.isLt; show 3 + k.val < 67; omega⟩
/-- The `k`-th receive semaphore. -/
def recvSem (k : Fin 32) : DmaSem sig := ⟨35 + k.val, by have := k.isLt; show 35 + k.val < 67; omega⟩

theorem sendSem_injective : Function.Injective sendSem := by
  intro a b h
  have h := congrArg Fin.val h
  simp only [sendSem] at h
  exact Fin.ext (by omega)

theorem recvSem_injective : Function.Injective recvSem := by
  intro a b h
  have h := congrArg Fin.val h
  simp only [recvSem] at h
  exact Fin.ext (by omega)

theorem sendSem_ne_recvSem (a b : Fin 32) : sendSem a ≠ recvSem b := by
  intro h
  have h := congrArg Fin.val h
  have := a.isLt
  simp only [sendSem, recvSem] at h
  omega

theorem stepSend_sem (c : Dev nD) (r : Fin 31) : (stepSend cc0_scratch2 r).sem = sendSem (sh c r - c) := by
  revert c r; decide +kernel

theorem ownRecv_sem (c : Dev nD) : (ownRecv cc0_scratch3 c).sem = recvSem c := by
  revert c; decide +kernel

theorem stepRecv_sem (c : Dev nD) (r : Fin 31) : (stepRecv cc0_scratch3 c r).sem = recvSem (sh c r) := by
  revert c r; decide +kernel

/-! ## The slots -/

/-- Slot `t` of a buffer of thirty-two slots, as a matrix. -/
abbrev slotM (a : Memref sig .tc .vmem S32x64x64 .bf16) (t : Fin 32) : Memref sig .tc .vmem S64x64 .bf16 :=
  (a.slice (tileRect t) (fun _ => rfl)).squeeze S64x64 squeezes_S1x64x64_S64x64

theorem off3_eq (c : Dev nD) (r : Fin 31) : k0_off3 c (BitVec.ofNat 32 (1 + r.val)) = ![(sh c r).val, 0, 0] := by
  revert c r; decide +kernel

theorem stepSlot_eq (a : Memref sig .tc .vmem S32x64x64 .bf16) (c : Dev nD) (r : Fin 31) : stepSlot a c r = slotM a (sh c r) := by
  unfold stepSlot slotM
  rw [Memref.slice_unit_congr a (off3_eq c r) _ (tile_inb (sh c r)) _ (fun _ => rfl)]

theorem ownSlot_eq (a : Memref sig .tc .vmem S32x64x64 .bf16) (c : Dev nD) : ownSlot a c = slotM a c := by
  unfold ownSlot slotM
  rw [Memref.slice_unit_congr a (k0_off2_eq c) _ (tile_inb c) _ (fun _ => rfl)]

/-- The send buffer and the receive buffer. -/
abbrev sM : Memref sig .tc .vmem S32x64x64 .bf16 := Memref.whole cc0_scratch0
abbrev rM : Memref sig .tc .vmem S32x64x64 .bf16 := Memref.whole cc0_scratch1

/-- The indices of slot `t`. -/
abbrev slotSet (t : Fin 32) : Finset S32x64x64.Idx := (tileRect t).set

theorem mem_slotSet {t : Fin 32} {i : S32x64x64.Idx} : i ∈ slotSet t ↔ (i 0).val = t.val := by
  rw [Rect.mem_set_unit]
  constructor
  · intro h
    have h0 := h 0
    have h1 : (![t.val, 0, 0] : Fin 3 → Nat) 0 = t.val := rfl
    have h2 : S1x64x64.size 0 = 1 := rfl
    rw [h1, h2] at h0
    omega
  · intro h a
    match a with
    | ⟨0, _⟩ =>
      show t.val ≤ (i 0).val ∧ (i 0).val < t.val + 1
      omega
    | ⟨1, _⟩ =>
      have := (i 1).isLt
      exact ⟨Nat.zero_le _, by show (i 1).val < 0 + 64; rw [Nat.zero_add]; exact this⟩
    | ⟨2, _⟩ =>
      have := (i 2).isLt
      exact ⟨Nat.zero_le _, by show (i 2).val < 0 + 64; rw [Nat.zero_add]; exact this⟩

theorem slot_set_s (t : Fin 32) : (slotM sM t).view.set = slotSet t := by simp
theorem slot_set_r (t : Fin 32) : (slotM rM t).view.set = slotSet t := by simp
theorem access_set_s (t : Fin 32) : (sM.access (tileRect t)).set = slotSet t := View.set_slice_whole _ _
theorem access_set_r (t : Fin 32) : (rM.access (tileRect t)).set = slotSet t := View.set_slice_whole _ _

theorem slotSet_disjoint {t t' : Fin 32} (h : t ≠ t') : Disjoint (slotSet t) (slotSet t') := by
  rw [Finset.disjoint_left]
  intro i hi hi'
  rw [mem_slotSet] at hi hi'
  exact h (Fin.ext (hi.symm.trans hi'))

theorem slotSet_cover : (Finset.univ : Finset (Fin 32)).biUnion slotSet = Finset.univ := by
  ext i
  simp only [Finset.mem_biUnion, Finset.mem_univ, true_and, iff_true]
  exact ⟨i 0, mem_slotSet.2 rfl⟩

/-! ## Contents -/

/-- A matrix of 2048 columns cut in thirty-two tiles of 64 columns: tile `t` in slot `t`. -/
def packed (p : FVec F S64x2048 .bf16) : FVec F S32x64x64 .bf16 := fun i =>
  p (ix2 (i 1) ⟨64 * (i 0).val + (i 2).val, by
    have h0 : (i 0).val < 32 := (i 0).isLt
    have h2 : (i 2).val < 64 := (i 2).isLt
    omega⟩)

/-- What device `c` has gathered, of the matrices `P`: in slot `s` device `s`'s tile `c`. -/
def gathered (P : Dev nD → FVec F S64x2048 .bf16) (c : Dev nD) : FVec F S32x64x64 .bf16 := fun i =>
  packed (P (i 0)) (ix3 c (i 1) (i 2))

theorem gathered_own (P : Dev nD → FVec F S64x2048 .bf16) (c : Dev nD) {i : S32x64x64.Idx} (h : i ∈ slotSet c) :
    gathered P c i = packed (P c) i := by
  have h0 : i 0 = c := Fin.ext (mem_slotSet.1 h)
  unfold gathered
  rw [h0, ← h0]
  exact congrArg (packed (P (i 0))) (eq_ix3 i).symm

/-- The kernel's tile `t` is slot `t` of the packed matrix. -/
theorem tilePay_apply (p : FVec F S64x2048 .bf16) (t : Fin 32) (x : S1x64x64.Idx) :
    tilePay p t x = packed p ((tileRect t).emb x) := by
  have hx : x = ix3 (x 0) (x 1) (x 2) := eq_ix3 x
  have h0 : (x 0).val < 1 := (x 0).isLt
  unfold tilePay
  rw [hx]
  refine (shapeCast_ab_1ab_apply _ _ _ _ _).trans ?_
  refine (slice2_axis1_eq _ _ _ _ _).trans ?_
  unfold packed
  refine congrArg p (congrArg₂ ix2 (Fin.ext ?_) (Fin.ext ?_))
  · show (x 1).val = 0 + 1 * (x 1).val
    omega
  · show 64 * t.val + (x 2).val = 64 * (t.val + 1 * (x 0).val) + (0 + 1 * (x 2).val)
    omega

/-- The store of tile `t` in the send buffer leaves slot `t` as stated. -/
theorem store_s (p : FVec F S64x2048 .bf16) (t : Fin 32) (f : (cc0_scratch0 : Ref sig .tc).ty.Contents (Elt F)) :
    ∀ i ∈ slotSet t, (sM.access (tileRect t)).write (Elt F) f (tilePay p t) Finset.univ i = packed p i := by
  intro i hi
  rw [← access_set_s] at hi
  obtain ⟨x, -, rfl⟩ := Finset.mem_map.1 hi
  refine (View.write_emb_of_mem _ _ (Finset.mem_univ x)).trans ?_
  exact tilePay_apply p t x

/-- The store of tile `t` in the receive buffer leaves slot `t` as stated. -/
theorem store_r (p : FVec F S64x2048 .bf16) (t : Fin 32) (f : (cc0_scratch1 : Ref sig .tc).ty.Contents (Elt F)) :
    ∀ i ∈ slotSet t, (rM.access (tileRect t)).write (Elt F) f (tilePay p t) Finset.univ i = packed p i := by
  intro i hi
  rw [← access_set_r] at hi
  obtain ⟨x, -, rfl⟩ := Finset.mem_map.1 hi
  refine (View.write_emb_of_mem _ _ (Finset.mem_univ x)).trans ?_
  exact tilePay_apply p t x

/-- Device `s`'s transfer of its slot `c` leaves slot `s` of device `c`'s receive buffer as stated. -/
theorem landing (P : Dev nD → FVec F S64x2048 .bf16) (c s : Dev nD) (f : (cc0_scratch1 : Ref sig .tc).ty.Contents (Elt F)) :
    ∀ i ∈ slotSet s, (slotM rM s).view.write (Elt F) f ((slotM sM c).view.read (Elt F) (packed (P s))) Finset.univ i
      = gathered P c i := by
  intro i hi
  rw [← slot_set_r] at hi
  obtain ⟨x, -, rfl⟩ := Finset.mem_map.1 hi
  refine (View.write_emb_of_mem _ _ (Finset.mem_univ x)).trans ?_
  have hy : ∀ y : S1x64x64.Idx, packed (P s) ((tileRect c).emb y) = gathered P c ((tileRect s).emb y) := by
    intro y
    have h0 : (y 0).val < 1 := (y 0).isLt
    have h1 : (tileRect s).emb y 0 = s := Fin.ext (by show s.val + 1 * (y 0).val = s.val; omega)
    unfold gathered
    rw [h1]
    refine congrArg (packed (P s)) (funext fun a => ?_)
    match a with
    | ⟨0, _⟩ => exact Fin.ext (by show c.val + 1 * (y 0).val = c.val; omega)
    | ⟨1, _⟩ => rfl
    | ⟨2, _⟩ => rfl
  exact hy _

end Cert.AllToAll

end
-- ==== Proof.Protocol.lean ====
/-
# The protocol of the all-to-all

Who signals which semaphore, by how much, and what comes with it. Device `c` has one barrier cell, a send cell for each
device it sends to and a receive cell for each device it receives from.

* Barrier cell of `c`: each other device `d` adds one unit, when it starts, and with it gives `c` slot `c` of its receive
  buffer, the one `c` will write. `c` waits for all thirty-one.
* Send cell of `c` for `d`: the transfer to `d` adds the slot's credit when it has read slot `d` of `c`'s send buffer, and
  gives that slot back. `c` waits for it at the end.
* Receive cell of `c` for `s`: device `s`'s transfer adds the slot's credit when it has landed, and gives slot `s` of `c`'s
  receive buffer, which then holds device `s`'s tile `c`. `c` waits for it before it reads the buffer.

The protocol is stated over the matrices `P` the devices computed.
-/
module

public import proofs.«01_k».proof.Proof.Slots
public import Idealize.ShloMosaic.Lib.Pipeline.BigSepL

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy (duties `Unit`) and the protocol's (a duty is named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barCell (c : Dev nD) : GSem nD τ sig := ((c : Thread nD τ), .reg barS)
/-- The cell of the transfer from `c` to `d`, on `c`. -/
abbrev sendCell (c d : Dev nD) : GSem nD τ sig := ((c : Thread nD τ), .dma (sendSem (d - c)))
/-- The cell of the transfer from `s` to `c`, on `c`. -/
abbrev recvCell (c s : Dev nD) : GSem nD τ sig := ((c : Thread nD τ), .dma (recvSem s))

/-- A device's semaphores: the barrier, the send and the receive semaphores. -/
abbrev CellIx : Type := Unit ⊕ (Fin 32 ⊕ Fin 32)
def csem : CellIx → SemLoc sig
  | .inl _ => .reg barS
  | .inr (.inl k) => .dma (sendSem k)
  | .inr (.inr k) => .dma (recvSem k)
def kcell (ck : Dev nD × CellIx) : GSem nD τ sig := ((ck.1 : Thread nD τ), csem ck.2)

abbrev barIx (c : Dev nD) : Dev nD × CellIx := (c, .inl ())
abbrev sendIx (c d : Dev nD) : Dev nD × CellIx := (c, .inr (.inl (d - c)))
abbrev recvIx (c s : Dev nD) : Dev nD × CellIx := (c, .inr (.inr s))

theorem dma_ne_bar (q : DmaSem sig) : (SemLoc.dma q : SemLoc sig) ≠ .reg barS := fun h => by cases h
theorem send_ne_recv (a b : Fin 32) : (SemLoc.dma (sendSem a) : SemLoc sig) ≠ .dma (recvSem b) :=
  fun h => sendSem_ne_recvSem a b (SemLoc.dma.inj h)
theorem send_inj {a b : Fin 32} (h : (SemLoc.dma (sendSem a) : SemLoc sig) = .dma (sendSem b)) : a = b :=
  sendSem_injective (SemLoc.dma.inj h)
theorem recv_inj {a b : Fin 32} (h : (SemLoc.dma (recvSem a) : SemLoc sig) = .dma (recvSem b)) : a = b :=
  recvSem_injective (SemLoc.dma.inj h)

theorem csem_injective : Function.Injective csem := by
  rintro (_ | a | a) (_ | b | b) h
  · rfl
  · exact absurd h.symm (dma_ne_bar _)
  · exact absurd h.symm (dma_ne_bar _)
  · exact absurd h (dma_ne_bar _)
  · exact congrArg (fun k => Sum.inr (Sum.inl k)) (send_inj h)
  · exact absurd h (send_ne_recv _ _)
  · exact absurd h (dma_ne_bar _)
  · exact absurd h.symm (send_ne_recv _ _)
  · exact congrArg (fun k => Sum.inr (Sum.inr k)) (recv_inj h)

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

theorem sub_dev_inj {a b c : Fin 32} (h : a - c = b - c) : a = b := by
  have h := congrArg Fin.val h
  rw [Fin.sub_def, Fin.sub_def] at h
  have ha := a.isLt
  have hb := b.isLt
  have hc := c.isLt
  dsimp only at h
  exact Fin.ext (by omega)

/-- The credit of one slot. -/
abbrev N : ℕ := (slotM rM 0).view.dmaCredit
theorem N_pos : 0 < N := View.dmaCredit_pos _ (by decide)

/-! ## The slots as resources -/

/-- Slot `t` of device `c`'s send buffer holds what `f` says. -/
def sPts (c : Dev nD) (t : Fin 32) (f : FVec F S32x64x64 .bf16) : sProp 𝕄 :=
  ((c : Thread nD τ).loc cc0_scratch0) ↦[slotSet t]{fullShare} f
/-- Slot `t` of device `c`'s receive buffer holds what `f` says. -/
def rPts (c : Dev nD) (t : Fin 32) (f : FVec F S32x64x64 .bf16) : sProp 𝕄 :=
  ((c : Thread nD τ).loc cc0_scratch1) ↦[slotSet t]{fullShare} f

omit [FloatOps F] in
instance sPts_storable (c : Dev nD) (t : Fin 32) (f) : BI.Storable (upEmb : UEmb _ 𝕄) (sPts (F := F) c t f) := by unfold sPts; infer_instance
omit [FloatOps F] in
instance rPts_storable (c : Dev nD) (t : Fin 32) (f) : BI.Storable (upEmb : UEmb _ 𝕄) (rPts (F := F) c t f) := by unfold rPts; infer_instance

omit [FloatOps F] in
/-- A slot's contents matter on the slot only. -/
theorem sPts_congr (c : Dev nD) (t : Fin 32) {f g : FVec F S32x64x64 .bf16} (h : ∀ i ∈ slotSet t, f i = g i) :
    sPts c t f = sPts c t g := pointsTo_congr h
omit [FloatOps F] in
theorem rPts_congr (c : Dev nD) (t : Fin 32) {f g : FVec F S32x64x64 .bf16} (h : ∀ i ∈ slotSet t, f i = g i) :
    rPts c t f = rPts c t g := pointsTo_congr h

omit [FloatOps F] in
/-- A whole buffer is its thirty-two slots. -/
theorem sPts_all (c : Dev nD) (f : FVec F S32x64x64 .bf16) :
    (((c : Thread nD τ).loc cc0_scratch0) ↦{fullShare} f : sProp 𝕄) = bigSep Finset.univ fun t : Fin 32 => sPts c t f := by
  have h := pointsTo_biUnion (Ix := Unit) (Val := Elt F) (Name := ℕ) (U := UU) (Lvl := ℕ) (ℓ := (c : Thread nD τ).loc cc0_scratch0) (q := fullShare) (f := f) Finset.univ slotSet
    (fun t _ t' _ h => slotSet_disjoint h)
  exact (congrArg (fun S : Finset S32x64x64.Idx => (((c : Thread nD τ).loc cc0_scratch0) ↦[S]{fullShare} f : sProp 𝕄)) slotSet_cover.symm).trans h
omit [FloatOps F] in
theorem rPts_all (c : Dev nD) (f : FVec F S32x64x64 .bf16) :
    (((c : Thread nD τ).loc cc0_scratch1) ↦{fullShare} f : sProp 𝕄) = bigSep Finset.univ fun t : Fin 32 => rPts c t f := by
  have h := pointsTo_biUnion (Ix := Unit) (Val := Elt F) (Name := ℕ) (U := UU) (Lvl := ℕ) (ℓ := (c : Thread nD τ).loc cc0_scratch1) (q := fullShare) (f := f) Finset.univ slotSet
    (fun t _ t' _ h => slotSet_disjoint h)
  exact (congrArg (fun S : Finset S32x64x64.Idx => (((c : Thread nD τ).loc cc0_scratch1) ↦[S]{fullShare} f : sProp 𝕄)) slotSet_cover.symm).trans h

/-! ## The schedule -/

section Sched
variable (P : Dev nD → FVec F S64x2048 .bf16)

/-- One round, round 0. A duty of a cell of device `c` is another device: all of them at the barrier cell, the device of the
    transfer at a send or receive cell. -/
def a2aRd : Rounds.Schedule (GSem nD τ sig) (Dev nD) 𝕄 where
  duties g r :=
    if r = 0 ∧ g.1.2 = .tc then
      Finset.univ.filter fun d => d ≠ g.1.1 ∧ (g.2 = .reg barS ∨ g.2 = .dma (recvSem d) ∨ g.2 = .dma (sendSem (d - g.1.1)))
    else ∅
  unitless _ := False
  amount g _ _ := if g.2 = .reg barS then 1 else N
  payload g _ d :=
    if g.2 = .reg barS then iprop(∃ f, rPts d g.1.1 f)
    else if g.2 = .dma (recvSem d) then rPts g.1.1 d (gathered P g.1.1)
    else sPts g.1.1 d (packed (P g.1.1))
  amount_pos g _ _ _ := by
    by_cases h : g.2 = .reg barS
    · rw [if_pos h]; exact Nat.one_pos
    · rw [if_neg h]; exact N_pos

instance a2aRd_payload_storable (g : GSem nD τ sig) (r : ℕ) (d : Dev nD) :
    BI.Storable (upEmb : UEmb _ 𝕄) ((a2aRd (F := F) P).payload g r d) := by
  show BI.Storable upEmb (if g.2 = .reg barS then iprop(∃ f, rPts d g.1.1 f)
    else if g.2 = .dma (recvSem d) then rPts g.1.1 d (gathered P g.1.1) else sPts g.1.1 d (packed (P g.1.1)))
  (repeat' split) <;> infer_instance

variable (c d : Dev nD)

omit [FloatOps F] in
theorem duties_bar : (a2aRd (F := F) P).duties (barCell c) 0 = Finset.univ.erase c := by
  dsimp only [a2aRd]
  rw [if_pos ⟨rfl, rfl⟩]
  ext x
  simp
omit [FloatOps F] in
theorem duties_send (h : d ≠ c) : (a2aRd (F := F) P).duties (sendCell c d) 0 = {d} := by
  dsimp only [a2aRd]
  rw [if_pos ⟨rfl, rfl⟩]
  ext x
  rw [Finset.mem_filter, Finset.mem_singleton]
  constructor
  · rintro ⟨-, -, h' | h' | h'⟩
    · exact absurd h' (dma_ne_bar _)
    · exact absurd h' (send_ne_recv _ _)
    · exact (sub_dev_inj (send_inj h')).symm
  · rintro rfl
    exact ⟨Finset.mem_univ _, h, .inr (.inr rfl)⟩
omit [FloatOps F] in
theorem duties_recv (h : d ≠ c) : (a2aRd (F := F) P).duties (recvCell c d) 0 = {d} := by
  dsimp only [a2aRd]
  rw [if_pos ⟨rfl, rfl⟩]
  ext x
  rw [Finset.mem_filter, Finset.mem_singleton]
  constructor
  · rintro ⟨-, -, h' | h' | h'⟩
    · exact absurd h' (dma_ne_bar _)
    · exact (recv_inj h').symm
    · exact absurd h'.symm (send_ne_recv _ _)
  · rintro rfl
    exact ⟨Finset.mem_univ _, h, .inr (.inl rfl)⟩
omit [FloatOps F] in
theorem duties_later (g : GSem nD τ sig) : ∀ r, 1 ≤ r → (a2aRd (F := F) P).duties g r = ∅ :=
  fun r hr => by dsimp only [a2aRd]; rw [if_neg fun h => by omega]

omit [FloatOps F] in
theorem amount_bar (x : Dev nD) : (a2aRd (F := F) P).amount (barCell c) 0 x = 1 := by dsimp only [a2aRd]; exact if_pos rfl
omit [FloatOps F] in
theorem amount_dma (q : DmaSem sig) (x : Dev nD) : (a2aRd (F := F) P).amount ((c : Thread nD τ), .dma q) 0 x = N := by
  dsimp only [a2aRd]; exact if_neg (dma_ne_bar _)

omit [FloatOps F] in
theorem expect_bar : (a2aRd (F := F) P).expect (barCell c) 0 = 31 := by
  unfold Schedule.expect Schedule.amountOf
  rw [duties_bar, Finset.sum_congr rfl fun d _ => amount_bar P c d, Finset.sum_const, Finset.card_erase_of_mem (Finset.mem_univ c),
    Finset.card_univ, Fintype.card_fin, smul_eq_mul]
  rfl
omit [FloatOps F] in
theorem expect_send (h : d ≠ c) : (a2aRd (F := F) P).expect (sendCell c d) 0 = N := by
  unfold Schedule.expect Schedule.amountOf; rw [duties_send P c d h, Finset.sum_singleton, amount_dma]
omit [FloatOps F] in
theorem expect_recv (h : d ≠ c) : (a2aRd (F := F) P).expect (recvCell c d) 0 = N := by
  unfold Schedule.expect Schedule.amountOf; rw [duties_recv P c d h, Finset.sum_singleton, amount_dma]

omit [FloatOps F] in
theorem payload_bar (x : Dev nD) : (a2aRd (F := F) P).payload (barCell c) 0 x = iprop(∃ f, rPts x c f) := by
  dsimp only [a2aRd]; exact if_pos rfl
omit [FloatOps F] in
theorem payload_send (x : Dev nD) : (a2aRd (F := F) P).payload (sendCell c d) 0 x = sPts c x (packed (P c)) := by
  dsimp only [a2aRd]; rw [if_neg (dma_ne_bar _), if_neg (send_ne_recv _ _)]
omit [FloatOps F] in
theorem payload_recv : (a2aRd (F := F) P).payload (recvCell c d) 0 d = rPts c d (gathered P c) := by
  dsimp only [a2aRd]; rw [if_neg (dma_ne_bar _), if_pos rfl]

omit [FloatOps F] in
/-- What the barrier wait brings: slot `c` of every other device's receive buffer. -/
theorem rest_bar : bigSep ((a2aRd (F := F) P).duties (barCell c) 0 \ ∅) (fun x => (a2aRd (F := F) P).payload (barCell c) 0 x)
    = bigSep (Finset.univ.erase c) fun x => iprop(∃ f, rPts x c f) := by
  rw [Finset.sdiff_empty, duties_bar]
  exact bigSep_congr fun x _ => payload_bar P c x
omit [FloatOps F] in
theorem rest_send (h : d ≠ c) : bigSep ((a2aRd (F := F) P).duties (sendCell c d) 0 \ ∅) (fun x => (a2aRd (F := F) P).payload (sendCell c d) 0 x)
    = sPts c d (packed (P c)) := by
  rw [Finset.sdiff_empty, duties_send P c d h, bigSep_singleton, payload_send]
omit [FloatOps F] in
theorem rest_recv (h : d ≠ c) : bigSep ((a2aRd (F := F) P).duties (recvCell c d) 0 \ ∅) (fun x => (a2aRd (F := F) P).payload (recvCell c d) 0 x)
    = rPts c d (gathered P c) := by
  rw [Finset.sdiff_empty, duties_recv P c d h, bigSep_singleton, payload_recv]

end Sched

/-! ## What each core owes at launch; the levels -/

/-- Device `c` owes every other device's receive cell for `c` the slot's credit. -/
def Orecv (c : Dev nD) : CellTallies nD τ sig Unit := ∑ d ∈ Finset.univ.erase c, tallyAt (recvCell d c) () N
/-- And every other device's barrier cell one unit. -/
def Obar (c : Dev nD) : CellTallies nD τ sig Unit := ∑ d ∈ Finset.univ.erase c, tallyAt (barCell d) () 1
def O₀ (c : Dev nD) : CellTallies nD τ sig Unit := Orecv c + Obar c

/-- A sum over the other devices, in the order of the kernel's loops. -/
theorem sum_others {M : Type} [AddCommMonoid M] (c : Dev nD) (f : Dev nD → M) :
    ∑ d ∈ Finset.univ.erase c, f d = (stepList.map fun r => f (sh c r)).sum := by
  have h : (Finset.univ.erase c : Finset (Dev nD)) = (others c).toFinset := by
    ext d; rw [List.mem_toFinset, mem_others, Finset.mem_erase]; exact and_iff_left (Finset.mem_univ d)
  rw [h, List.sum_toFinset f (others_nodup c), others, List.map_map]
  rfl

/-- A separating conjunction over the other devices, in the order of the kernel's loops. -/
theorem bigSep_others {M : Type} [RA.URA M] (c : Dev nD) (Φ : Dev nD → sProp M) :
    bigSep (Finset.univ.erase c) Φ = bigSepL stepList fun r => Φ (sh c r) := by
  have h : (Finset.univ.erase c : Finset (Dev nD)) = (others c).toFinset := by
    ext d; rw [List.mem_toFinset, mem_others, Finset.mem_erase]; exact and_iff_left (Finset.mem_univ d)
  rw [bigSep_eq_bigSepL_of_eq (others c) h (others_nodup c), others, bigSepL_map]

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if ∃ s, g.2 = .dma (recvSem s) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c s : Dev nD) (u : Unit) : lv (recvCell c s) u = 2 := (if_neg (dma_ne_bar _)).trans (if_pos ⟨s, rfl⟩)

/-- What a sum of debts of one unit of time each owes at a cell comes from one of them. -/
theorem sum_pos {s : Finset (Dev nD)} {f : Dev nD → GSem nD τ sig} {n : ℕ} {g : GSem nD τ sig} {u : Unit}
    (h : 0 < (∑ d ∈ s, tallyAt (f d) () n : CellTallies nD τ sig Unit) g u) : ∃ d, g = f d := by
  rw [Finset.sum_apply, Finsupp.finset_sum_apply] at h
  obtain ⟨d, -, hd⟩ := Finset.exists_ne_zero_of_sum_ne_zero (Nat.pos_iff_ne_zero.1 h)
  refine ⟨d, ?_⟩
  by_contra hn
  rw [tallyAt_apply, if_neg fun h' => hn h'.1] at hd
  exact hd rfl

theorem O₀_pos {c : Dev nD} {g : GSem nD τ sig} {u : Unit} (h : 0 < O₀ c g u) :
    (∃ d, g = recvCell d c) ∨ ∃ d, g = barCell d := by
  unfold O₀ at h
  rw [Pi.add_apply, Finsupp.add_apply] at h
  rcases Nat.add_pos_iff_pos_or_pos.1 h with h | h
  · exact .inl (sum_pos h)
  · exact .inr (sum_pos h)

omit [FloatOps F] in
/-- A wait on a staging cell is below everything a device owes. -/
theorem mayWait_stage (c : Dev nD) (q : DmaSem sig) (hq : ∀ s, SemLoc.dma q ≠ .dma (recvSem s)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]; dsimp only [lv]
        rw [if_neg (dma_ne_bar _), if_neg fun h => h.elim hq])
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier wait a device owes receive credit only: receive cells are above barrier cells. -/
theorem mayWait_bar (c : Dev nD) : (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨d, rfl⟩ := sum_pos hg; exact Finset.mem_singleton_self _)
    (fun p hp => by rw [Finset.mem_singleton.mp hp]; exact le_of_eq (lv_bar c _))
    (fun g u hg => by obtain ⟨d, rfl⟩ := sum_pos hg; rw [lv_recv]; decide)

end Cert.AllToAll

end
-- ==== Proof.Rules.lean ====
/-
# A rule for each loop of the body

For each loop of `Loops`, what device `c` gives and what it has after it, by induction on the list the loop runs over.
-/
module

public import proofs.«01_k».proof.Proof.Protocol

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to a state with `Q`. -/
abbrev runs (c : Dev nD) (p : KProg F) (Q : PUnit → sProp 𝕄) : sProp 𝕄 :=
  wp frame (wpE (defs₀ (F := F)) 𝒱₀ (c : Thread nD τ) none) Set.univ p Q

variable (P : Dev nD → FVec F S64x2048 .bf16) (K : Dev nD × CellIx → ℕ)

/-- What every device knows: the invariant of every cell, under the names `K`, and that every cell has reached round 0. -/
def records : sProp 𝕄 :=
  iprop((bigSep Finset.univ fun ck : Dev nD × CellIx => cellInv ER (a2aRd P) (K ck) (kcell ck))
    ∗ bigSep Finset.univ fun ck : Dev nD × CellIx => reached ER (kcell ck) 0)

instance records_persistent : BI.Persistent (records P K) := by unfold records; infer_instance

omit [FloatOps F] in
theorem inv_at (ck : Dev nD × CellIx) : records P K ⊢ (cellInv ER (a2aRd P) (K ck) (kcell ck) : sProp 𝕄) := by
  unfold records
  iintro ⟨H, -⟩
  iapply (show (bigSep Finset.univ fun ck : Dev nD × CellIx => (cellInv ER (a2aRd P) (K ck) (kcell ck) : sProp 𝕄)) ⊢ cellInv ER (a2aRd P) (K ck) (kcell ck)
    from bigSep_elim (Finset.mem_univ ck))
  iexact H
omit [FloatOps F] in
theorem reached_at (ck : Dev nD × CellIx) : records P K ⊢ (reached ER (kcell ck) 0 : sProp 𝕄) := by
  unfold records
  iintro ⟨-, H⟩
  iapply (show (bigSep Finset.univ fun ck : Dev nD × CellIx => (reached ER (kcell ck) 0 : sProp 𝕄)) ⊢ reached ER (kcell ck) 0
    from bigSep_elim (Finset.mem_univ ck))
  iexact H

theorem one_toInt : (1#32 : BitVec 32).toInt = ((1 : ℕ) : ℤ) := by decide
theorem thirtyone_toInt : (31#32 : BitVec 32).toInt = ((31 : ℕ) : ℤ) := by decide

/-! ## The signals -/

/-- One signal pays the sender's duty at the addressed device's barrier cell, and gives it the sender's slot for it. -/
theorem wp_signal_one (c d : Dev nD) (hd : d ≠ c) (O O' : CellTallies nD τ sig Unit) (hO : O' = O + tallyAt (barCell d) () 1)
    (W : Waits sig Unit) (k : KProg F) (Q : PUnit → sProp 𝕄) :
    iprop(records P K ∗ owes (c : Thread nD τ) O' W ∗ dutyTok ER (barCell d) 0 c ∗ (∃ f, rPts c d f)
        ∗ (owes (c : Thread nD τ) O W -∗ runs c k Q))
      ⊢ runs c (Prog.op (.semSignal (d, .tc) barS (1#32 : BitVec 32).toInt) fun _ => k) Q := by
  rw [one_toInt]
  iintro ⟨#HR, HO, Ht, Hs, Hk⟩
  iapply (Rounds.wp_signal 𝒱₀ ER (a2aRd P) (c : Thread nD τ) none (dst := (d : Thread nD τ)) (κ := K (barIx d)) (r := 0) (k' := 1)
      (d := c) (by rw [duties_bar]; exact Finset.mem_erase.2 ⟨hd.symm, Finset.mem_univ c⟩)
      (amount_bar P d c) () O hO) $$ [HO Ht Hs]
  · isplitr; · iapply (inv_at P K (barIx d)); iexact HR
    isplitl [HO]; · iexact HO
    isplitl [Ht]; · iexact Ht
    isplitl [Hs]; · rw [payload_bar]; iexact Hs
    iapply (reached_at P K (barIx d)); iexact HR
  iexact Hk

/-- All the signals. -/
theorem wp_signals (c : Dev nD) (R : CellTallies nD τ sig Unit) (W : Waits sig Unit) (k : KProg F) (Q : PUnit → sProp 𝕄) :
    ∀ l : List (Fin 31),
    iprop(records P K ∗ owes (c : Thread nD τ) (R + (l.map fun r => (tallyAt (barCell (sh c r)) () 1 : CellTallies nD τ sig Unit)).sum) W
        ∗ (bigSepL l fun r => iprop(dutyTok ER (barCell (sh c r)) 0 c ∗ ∃ f, rPts c (sh c r) f))
        ∗ (owes (c : Thread nD τ) R W -∗ runs c k Q))
      ⊢ runs c (signals (l.map (sh c)) k) Q
  | [] => by
    rw [List.map_nil, List.map_nil, List.sum_nil, add_zero]
    iintro ⟨-, HO, -, Hk⟩
    iapply Hk; iexact HO
  | r :: l => by
    rw [List.map_cons, List.map_cons, List.sum_cons, bigSepL_cons', signals]
    iintro ⟨#HR, HO, ⟨⟨Ht, Hs⟩, Hl⟩, Hk⟩
    iapply (wp_signal_one P K c (sh c r) (sh_ne c r) _ _
      ((add_assoc R _ _).trans (congrArg (R + ·) (add_comm _ _))).symm W (signals (l.map (sh c)) k) Q)
    isplitr; · iexact HR
    isplitl [HO]; · iexact HO
    isplitl [Ht]; · iexact Ht
    isplitl [Hs]; · iexact Hs
    iintro HO
    iapply (wp_signals c R W k Q l)
    isplitr; · iexact HR
    isplitl [HO]; · iexact HO
    isplitl [Hl]; · iexact Hl
    iexact Hk

/-! ## The tiles -/

theorem load_set_s (t : Fin 32) : sM.view.setOn (tileRect t).toLoadRect.set ⊆ slotSet t :=
  le_of_eq ((View.set_slice _ _).symm.trans (access_set_s t))
theorem load_set_r (t : Fin 32) : rM.view.setOn (tileRect t).toLoadRect.set ⊆ slotSet t :=
  le_of_eq ((View.set_slice _ _).symm.trans (access_set_r t))

omit [FloatOps F] in
theorem sPts_def (c : Dev nD) (t : Fin 32) (f : FVec F S32x64x64 .bf16) :
    sPts c t f = (((c : Thread nD τ).loc cc0_scratch0) ↦[slotSet t]{fullShare} f : sProp 𝕄) := rfl
omit [FloatOps F] in
theorem rPts_def (c : Dev nD) (t : Fin 32) (f : FVec F S32x64x64 .bf16) :
    rPts c t f = (((c : Thread nD τ).loc cc0_scratch1) ↦[slotSet t]{fullShare} f : sProp 𝕄) := rfl

/-- One tile stored in the send buffer. -/
theorem wp_putTile (c : Dev nD) (p : FVec F S64x2048 .bf16) (t : Fin 32) (k : KProg F) (Q : PUnit → sProp 𝕄) :
    iprop((∃ f, sPts c t f) ∗ (sPts c t (packed p) -∗ runs c k Q)) ⊢ runs c (putTile sM (Memref.isWhole_whole _) p t k) Q := by
  unfold putTile
  iintro ⟨⟨%f, Hs⟩, Hk⟩
  ihave Hs := (Entails.of_eq (sPts_def c t f)) $$ Hs
  iapply (wp_load 𝒱₀ (c : Thread nD τ) none Set.univ (m := sM) (load_set_s t)) $$ Hs; iintro Hs
  iapply (wp_store 𝒱₀ (c : Thread nD τ) none Set.univ (m := sM) (r := tileRect t) (Mk := Finset.univ) (le_of_eq (access_set_s t))) $$ Hs; iintro Hs
  iapply Hk
  iapply (Entails.of_eq (sPts_congr c t (store_s p t f)))
  rw [sPts_def]
  iexact Hs

/-- One tile stored in the receive buffer. -/
theorem wp_putOwn (c : Dev nD) (p : FVec F S64x2048 .bf16) (t : Fin 32) (f : FVec F S32x64x64 .bf16) (k : KProg F) (Q : PUnit → sProp 𝕄) :
    iprop(rPts c t f ∗ (rPts c t (packed p) -∗ runs c k Q)) ⊢ runs c (putTile rM (Memref.isWhole_whole _) p t k) Q := by
  unfold putTile
  iintro ⟨Hs, Hk⟩
  ihave Hs := (Entails.of_eq (rPts_def c t f)) $$ Hs
  iapply (wp_load 𝒱₀ (c : Thread nD τ) none Set.univ (m := rM) (load_set_r t)) $$ Hs; iintro Hs
  iapply (wp_store 𝒱₀ (c : Thread nD τ) none Set.univ (m := rM) (r := tileRect t) (Mk := Finset.univ) (le_of_eq (access_set_r t))) $$ Hs; iintro Hs
  iapply Hk
  iapply (Entails.of_eq (rPts_congr c t (store_r p t f)))
  rw [rPts_def]
  iexact Hs

/-- All the tiles: each slot of the send buffer as stated, and the device's own slot of the receive buffer too once its tile
    has been stored. -/
theorem wp_tiles (c : Dev nD) (k : KProg F) (Q : PUnit → sProp 𝕄) :
    ∀ (l : List (Fin 32)) (f : FVec F S32x64x64 .bf16),
    iprop((bigSepL l fun t => iprop(∃ f, sPts c t f)) ∗ rPts c c f
        ∗ (((bigSepL l fun t => sPts c t (packed (P c))) ∗ rPts c c (if c ∈ l then gathered P c else f)) -∗ runs c k Q))
      ⊢ runs c (tiles sM (Memref.isWhole_whole _) rM (Memref.isWhole_whole _) c (P c) l k) Q
  | [], f => by
    rw [tiles, if_neg (List.not_mem_nil)]
    iintro ⟨Hs, Hr, Hk⟩
    iapply Hk
    isplitl [Hs]; · iexact Hs
    iexact Hr
  | t :: l, f => by
    rw [tiles, bigSepL_cons', bigSepL_cons']
    iintro ⟨⟨Hs, Hl⟩, Hr, Hk⟩
    iapply (wp_putTile c (P c) t _ Q)
    isplitl [Hs]; · iexact Hs
    iintro Hs
    by_cases ht : t = c
    · subst ht
      rw [readWriteIf, if_pos ((ownBit_iff t t).2 rfl), if_pos List.mem_cons_self]
      iapply (wp_putOwn t (P t) t f _ Q)
      isplitl [Hr]; · iexact Hr
      iintro Hr
      iapply (wp_tiles t k Q l (packed (P t)))
      isplitl [Hl]; · iexact Hl
      isplitl [Hr]; · iexact Hr
      iintro ⟨Hl, Hr⟩
      iapply Hk
      isplitl [Hs Hl]
      · isplitl [Hs]; · iexact Hs
        iexact Hl
      · ihave Hr := (Entails.of_eq (rPts_congr t t (g := gathered P t) (fun i hi => by
          split
          · rfl
          · exact (gathered_own P t hi).symm))) $$ Hr
        iexact Hr
    · rw [readWriteIf, if_neg (fun h => ht ((ownBit_iff c t).1 h))]
      iapply (wp_tiles c k Q l f)
      isplitl [Hl]; · iexact Hl
      isplitl [Hr]; · iexact Hr
      iintro ⟨Hl, Hr⟩
      iapply Hk
      isplitl [Hs Hl]
      · isplitl [Hs]; · iexact Hs
        iexact Hl
      · rw [if_congr (List.mem_cons.trans (or_iff_right (Ne.symm ht))) rfl rfl]
        iexact Hr

/-! ## The barrier -/

/-- The barrier wait brings slot `c` of every other device's receive buffer; the barrier cell is then closed. -/
theorem wp_barrier (c : Dev nD) (W : Waits sig Unit) (k : KProg F) (Q : PUnit → sProp 𝕄) :
    iprop(records P K ∗ levAts L lv ∗ cred (tallyAt (barCell c) () 31) ∗ owes (c : Thread nD τ) (Orecv c) W ∗ atPos ER (barCell c) 0 ∅ 0
        ∗ ((owes (c : Thread nD τ) (Orecv c) (insert (SemLoc.reg barS, ()) W) ∗ semVal (barCell c) 0
            ∗ bigSep (Finset.univ.erase c) fun x => iprop(∃ f, rPts x c f)) -∗ runs c k Q))
      ⊢ runs c (Prog.op (.semWait barS (31#32 : BitVec 32).toInt) fun _ => k) Q := by
  rw [thirtyone_toInt]
  iintro ⟨#HR, #Hlev, Hc, HO, Hat, Hk⟩
  iapply (Rounds.wp_wait_rest_token 𝒱₀ ER (a2aRd P) (c : Thread nD τ) none (κ := K (barIx c))
      (wpE_semWait_eq 𝒱₀ (c : Thread nD τ) none Set.univ) (Set.mem_univ _) () (O := Orecv c) (W := W) (R := 0) (m := 0) (T := ∅)
      (by rw [Nat.zero_add]; exact (expect_bar P c).symm)) $$ [Hc HO Hat]
  · isplitr; · iapply (inv_at P K (barIx c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar P c)) $$ Hpay
  imod (Rounds.cell_close ER (a2aRd P) (Set.mem_univ (K (barIx c))) (fun h => h) (R := 0 + 1) (duties_later P (barCell c))) $$ [Hat] with Hz
  · isplitr; · iapply (inv_at P K (barIx c)); iexact HR
    iexact Hat
  iapply Hk
  isplitl [HO]; · iexact HO
  isplitl [Hz]; · iexact Hz
  iexact Hp

end Cert.AllToAll

end
-- ==== Proof.Transfers.lean ====
/-
# The transfers, their waits, and the result

The rules for the second half of the body: each transfer pays its two duties, each wait brings its slot and closes its cell,
and the whole receive buffer is then stored, as float32, in the result's staging buffer.
-/
module

public import proofs.«01_k».proof.Proof.Rules

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S64x2048 .bf16) (K : Dev nD × CellIx → ℕ)

omit [FloatOps F] in
/-- A slot, as the memref a transfer names it by. -/
theorem sPts_view (c : Dev nD) (t : Fin 32) (f : FVec F S32x64x64 .bf16) :
    (((slotM sM t).view.loc (c : Thread nD τ)) ↦[(slotM sM t).view.set]{fullShare} f : sProp 𝕄) = sPts c t f :=
  congrArg (fun S : Finset S32x64x64.Idx => (((c : Thread nD τ).loc cc0_scratch0) ↦[S]{fullShare} f : sProp 𝕄)) (slot_set_s t)
omit [FloatOps F] in
theorem rPts_view (c : Dev nD) (t : Fin 32) (f : FVec F S32x64x64 .bf16) :
    (((slotM rM t).view.loc (c : Thread nD τ)) ↦[(slotM rM t).view.set]{fullShare} f : sProp 𝕄) = rPts c t f :=
  congrArg (fun S : Finset S32x64x64.Idx => (((c : Thread nD τ).loc cc0_scratch1) ↦[S]{fullShare} f : sProp 𝕄)) (slot_set_r t)

/-! ## The transfers -/

theorem slot_credit (t : Fin 32) : (slotM rM t).view.dmaCredit = N := rfl
theorem stepSlot_credit_r (c : Dev nD) (r : Fin 31) : (stepSlot rM c r).view.dmaCredit = N := rfl
theorem stepSlot_credit_s (c : Dev nD) (r : Fin 31) : (stepSlot sM c r).view.dmaCredit = N := rfl

/-- One transfer: device `c` sends slot `d` of its send buffer to device `d`, which keeps it in slot `c` of its receive
    buffer. -/
theorem wp_send_one (c d : Dev nD) (hd : d ≠ c) {src dst : Memref sig .tc .vmem S64x64 .bf16} {qs qr : DmaSem sig}
    (hsrc : src = slotM sM d) (hdst : dst = slotM rM c) (hqs : qs = sendSem (d - c)) (hqr : qr = recvSem c)
    {hsc : (dst : Memref sig (Dev.tc d : Thread nD τ).2.kind .vmem S64x64 .bf16).view.ref.isScScratch = false}
    {hws : src.view.WordExact} {hwd : dst.view.WordExact}
    {hsem : DmaTarget.Typed .vmem (.dma qr) (.remote (Dev.tc d : Thread nD τ) dst (.dma qs) hsc)}
    (O O' : CellTallies nD τ sig Unit) (hO : O' = O + tallyAt (recvCell d c) () N) (W : Waits sig Unit) (k : KProg F) (Q : PUnit → sProp 𝕄) :
    iprop(records P K ∗ owes (c : Thread nD τ) O' W
        ∗ (sPts c d (packed (P c)) ∗ (∃ f, rPts d c f) ∗ dutyTok ER (sendCell c d) 0 d ∗ dutyTok ER (recvCell d c) 0 c)
        ∗ ((owes (c : Thread nD τ) O W ∗ cred (tallyAt (sendCell c d) () N)) -∗ runs c k Q))
      ⊢ runs c (Prog.op (.enqueueDma src (.remote (Dev.tc d : Thread nD τ) dst (.dma qs) hsc) (.dma qr) hws hwd hsem) fun _ => k) Q := by
  subst hsrc hdst hqs hqr
  iintro ⟨#HR, HO, ⟨Hs, ⟨%f, Hr⟩, Hts, Htr⟩, Hk⟩
  iapply (Rounds.wp_send_pointsTo 𝒱₀ ER (a2aRd P) (c : Thread nD τ) none (c' := (d : Thread nD τ)) (src := slotM sM d) (dst := slotM rM c)
    (sS := .dma (sendSem (d - c))) (sem := .dma (recvSem c)) (κ₁ := K (sendIx c d)) (κ₂ := K (recvIx d c))
    (q := fullShare) (fs := packed (P c)) (fd := f) (r₁ := 0) (r₂ := 0) (d₁ := d) (d₂ := c)
    (by rw [duties_send P c d hd]; exact Finset.mem_singleton_self _) (by rw [duties_recv P d c hd.symm]; exact Finset.mem_singleton_self _)
    () () N (slot_credit c) (amount_dma P c _ d) (amount_dma P d _ c) O hO (W := W)
    (by rw [sPts_view, payload_send])
    (by rw [rPts_view, payload_recv]; exact Entails.of_eq (rPts_congr d c (landing P d c f)))) $$ [HO Hs Hr Hts Htr]
  · isplitr; · iapply (inv_at P K (sendIx c d)); iexact HR
    isplitr; · iapply (inv_at P K (recvIx d c)); iexact HR
    isplitl [Hs]; · iapply (Entails.of_eq (sPts_view c d (packed (P c))).symm); iexact Hs
    isplitl [Hr]; · iapply (Entails.of_eq (rPts_view d c f).symm); iexact Hr
    isplitl [HO]; · iexact HO
    isplitl [Hts]; · iexact Hts
    isplitr; · iapply (reached_at P K (sendIx c d)); iexact HR
    isplitl [Htr]; · iexact Htr
    iapply (reached_at P K (recvIx d c)); iexact HR
  iintro ⟨Hc, HO⟩
  iapply Hk
  isplitl [HO]; · iexact HO
  iexact Hc

/-- What device `c` hands in with the transfer of step `r`. -/
def handIn (c d : Dev nD) : sProp 𝕄 :=
  iprop(sPts c d (packed (P c)) ∗ (∃ f, rPts d c f) ∗ dutyTok ER (sendCell c d) 0 d ∗ dutyTok ER (recvCell d c) 0 c)

/-- All the transfers. -/
theorem wp_sends (c : Dev nD) (W : Waits sig Unit) (k : KProg F) (Q : PUnit → sProp 𝕄) :
    ∀ l : List (Fin 31),
    iprop(records P K ∗ owes (c : Thread nD τ) (l.map fun r => (tallyAt (recvCell (sh c r) c) () N : CellTallies nD τ sig Unit)).sum W
        ∗ (bigSepL l fun r => handIn P c (sh c r))
        ∗ ((owes (c : Thread nD τ) 0 W ∗ bigSepL l fun r => cred (tallyAt (sendCell c (sh c r)) () N)) -∗ runs c k Q))
      ⊢ runs c (sends sM (Memref.isWhole_whole _) rM (Memref.isWhole_whole _) cc0_scratch2 cc0_scratch3 c (l.map fun r => (r, sh c r)) k) Q
  | [] => by
    rw [List.map_nil, List.map_nil, List.sum_nil, sends]
    iintro ⟨-, HO, Hl, Hk⟩
    iapply Hk
    isplitl [HO]; · iexact HO
    iexact Hl
  | r :: l => by
    rw [List.map_cons, List.map_cons, List.sum_cons, bigSepL_cons', bigSepL_cons', sends]
    iintro ⟨#HR, HO, ⟨H, Hl⟩, Hk⟩
    iapply (wp_send_one P K c (sh c r) (sh_ne c r) (stepSlot_eq sM c r) (ownSlot_eq rM c) (stepSend_sem c r) (ownRecv_sem c)
      (l.map fun r => (tallyAt (recvCell (sh c r) c) () N : CellTallies nD τ sig Unit)).sum _ (add_comm _ _) W
      (sends sM (Memref.isWhole_whole _) rM (Memref.isWhole_whole _) cc0_scratch2 cc0_scratch3 c (l.map fun r => (r, sh c r)) k) Q)
    isplitr; · iexact HR
    isplitl [HO]; · iexact HO
    isplitl [H]; · unfold handIn; iexact H
    iintro ⟨HO, Hc⟩
    iapply (wp_sends c W k Q l)
    isplitr; · iexact HR
    isplitl [HO]; · iexact HO
    isplitl [Hl]; · iexact Hl
    iintro ⟨HO, Hl⟩
    iapply Hk
    isplitl [HO]; · iexact HO
    isplitl [Hc]; · iexact Hc
    iexact Hl

/-! ## The waits -/

/-- One wait for what device `s` sends: its slot, holding the tile, and the cell closed. -/
theorem wp_recv_one (c s : Dev nD) (hs : s ≠ c) {src dst : Memref sig .tc .vmem S64x64 .bf16} {q : DmaSem sig}
    (hN : dst.view.dmaCredit = N) (hq : q = recvSem s) {hws : src.view.WordExact} {hwd : dst.view.WordExact} (k : KProg F) (Q : PUnit → sProp 𝕄) :
    iprop(records P K ∗ (∃ W, owes (c : Thread nD τ) 0 W) ∗ (cred (tallyAt (recvCell c s) () N) ∗ atPos ER (recvCell c s) 0 ∅ 0)
        ∗ (((∃ W, owes (c : Thread nD τ) 0 W) ∗ (rPts c s (gathered P c) ∗ semVal (recvCell c s) 0)) -∗ runs c k Q))
      ⊢ runs c (Prog.op (.waitDma2 q src dst hws hwd) fun _ => k) Q := by
  subst hq
  iintro ⟨#HR, ⟨%W, HO⟩, ⟨Hc, Hat⟩, Hk⟩
  iapply (Rounds.wp_wait_rest_token 𝒱₀ ER (a2aRd P) (c : Thread nD τ) none (κ := K (recvIx c s)) (k' := N)
      (fun Ks => (wpE_waitDma2_eq 𝒱₀ (c : Thread nD τ) none Set.univ Ks).trans (by rw [hN])) (Set.mem_univ _) () (O := 0) (W := W) (R := 0) (m := 0) (T := ∅)
      (by rw [Nat.zero_add, expect_recv P c s hs])) $$ [Hc HO Hat]
  · isplitr; · iapply (inv_at P K (recvIx c s)); iexact HR
    isplitl [Hc]; · iexact Hc
    isplitl [HO]; · iexact HO
    isplitr; · rw [MayWait_zero]; iempintro
    iexact Hat
  iintro ⟨HO, Hat, -, Hpay⟩
  ihave Hp := (Entails.of_eq (rest_recv P c s hs)) $$ Hpay
  imod (Rounds.cell_close ER (a2aRd P) (Set.mem_univ (K (recvIx c s))) (fun h => h) (R := 0 + 1) (duties_later P (recvCell c s))) $$ [Hat] with Hz
  · isplitr; · iapply (inv_at P K (recvIx c s)); iexact HR
    iexact Hat
  iapply Hk
  isplitl [HO]; · iexists _; iexact HO
  isplitl [Hp]; · iexact Hp
  iexact Hz

/-- One wait for an own transfer to have left: the slot of the send buffer, and the cell closed. -/
theorem wp_drain_one (c d : Dev nD) (hd : d ≠ c) {src dst : Memref sig .tc .vmem S64x64 .bf16} {q : DmaSem sig}
    (hN : dst.view.dmaCredit = N) (hq : q = sendSem (d - c)) {hws : src.view.WordExact} {hwd : dst.view.WordExact} (k : KProg F) (Q : PUnit → sProp 𝕄) :
    iprop(records P K ∗ (∃ W, owes (c : Thread nD τ) 0 W) ∗ (cred (tallyAt (sendCell c d) () N) ∗ atPos ER (sendCell c d) 0 ∅ 0)
        ∗ (((∃ W, owes (c : Thread nD τ) 0 W) ∗ (sPts c d (packed (P c)) ∗ semVal (sendCell c d) 0)) -∗ runs c k Q))
      ⊢ runs c (Prog.op (.waitDma2 q src dst hws hwd) fun _ => k) Q := by
  subst hq
  iintro ⟨#HR, ⟨%W, HO⟩, ⟨Hc, Hat⟩, Hk⟩
  iapply (Rounds.wp_wait_rest_token 𝒱₀ ER (a2aRd P) (c : Thread nD τ) none (κ := K (sendIx c d)) (k' := N)
      (fun Ks => (wpE_waitDma2_eq 𝒱₀ (c : Thread nD τ) none Set.univ Ks).trans (by rw [hN])) (Set.mem_univ _) () (O := 0) (W := W) (R := 0) (m := 0) (T := ∅)
      (by rw [Nat.zero_add, expect_send P c d hd])) $$ [Hc HO Hat]
  · isplitr; · iapply (inv_at P K (sendIx c d)); iexact HR
    isplitl [Hc]; · iexact Hc
    isplitl [HO]; · iexact HO
    isplitr; · rw [MayWait_zero]; iempintro
    iexact Hat
  iintro ⟨HO, Hat, -, Hpay⟩
  ihave Hp := (Entails.of_eq (rest_send P c d hd)) $$ Hpay
  imod (Rounds.cell_close ER (a2aRd P) (Set.mem_univ (K (sendIx c d))) (fun h => h) (R := 0 + 1) (duties_later P (sendCell c d))) $$ [Hat] with Hz
  · isplitr; · iapply (inv_at P K (sendIx c d)); iexact HR
    iexact Hat
  iapply Hk
  isplitl [HO]; · iexists _; iexact HO
  isplitl [Hp]; · iexact Hp
  iexact Hz

/-- All the waits for what the other devices send. -/
theorem wp_recvs (c : Dev nD) (k : KProg F) (Q : PUnit → sProp 𝕄) :
    ∀ l : List (Fin 31),
    iprop(records P K ∗ (∃ W, owes (c : Thread nD τ) 0 W)
        ∗ (bigSepL l fun r => iprop(cred (tallyAt (recvCell c (sh c r)) () N) ∗ atPos ER (recvCell c (sh c r)) 0 ∅ 0))
        ∗ (((∃ W, owes (c : Thread nD τ) 0 W) ∗ bigSepL l fun r => iprop(rPts c (sh c r) (gathered P c) ∗ semVal (recvCell c (sh c r)) 0))
            -∗ runs c k Q))
      ⊢ runs c (recvs sM (Memref.isWhole_whole _) rM (Memref.isWhole_whole _) cc0_scratch3 c l k) Q
  | [] => by
    rw [recvs]
    iintro ⟨-, HO, Hl, Hk⟩
    iapply Hk
    isplitl [HO]; · iexact HO
    iexact Hl
  | r :: l => by
    rw [bigSepL_cons', bigSepL_cons', recvs]
    iintro ⟨#HR, HO, ⟨H, Hl⟩, Hk⟩
    iapply (wp_recv_one P K c (sh c r) (sh_ne c r) (src := stepSlot sM c r) (dst := stepSlot rM c r) (stepSlot_credit_r c r) (stepRecv_sem c r)
      (recvs sM (Memref.isWhole_whole _) rM (Memref.isWhole_whole _) cc0_scratch3 c l k) Q)
    isplitr; · iexact HR
    isplitl [HO]; · iexact HO
    isplitl [H]; · iexact H
    iintro ⟨HO, H⟩
    iapply (wp_recvs c k Q l)
    isplitr; · iexact HR
    isplitl [HO]; · iexact HO
    isplitl [Hl]; · iexact Hl
    iintro ⟨HO, Hl⟩
    iapply Hk
    isplitl [HO]; · iexact HO
    isplitl [H]; · iexact H
    iexact Hl

/-- All the waits for the own transfers to have left. -/
theorem wp_drains (c : Dev nD) (k : KProg F) (Q : PUnit → sProp 𝕄) :
    ∀ l : List (Fin 31),
    iprop(records P K ∗ (∃ W, owes (c : Thread nD τ) 0 W)
        ∗ (bigSepL l fun r => iprop(cred (tallyAt (sendCell c (sh c r)) () N) ∗ atPos ER (sendCell c (sh c r)) 0 ∅ 0))
        ∗ (((∃ W, owes (c : Thread nD τ) 0 W) ∗ bigSepL l fun r => iprop(sPts c (sh c r) (packed (P c)) ∗ semVal (sendCell c (sh c r)) 0))
            -∗ runs c k Q))
      ⊢ runs c (drains sM (Memref.isWhole_whole _) rM (Memref.isWhole_whole _) cc0_scratch2 c l k) Q
  | [] => by
    rw [drains]
    iintro ⟨-, HO, Hl, Hk⟩
    iapply Hk
    isplitl [HO]; · iexact HO
    iexact Hl
  | r :: l => by
    rw [bigSepL_cons', bigSepL_cons', drains]
    iintro ⟨#HR, HO, ⟨H, Hl⟩, Hk⟩
    iapply (wp_drain_one P K c (sh c r) (sh_ne c r) (src := ownSlot rM c) (dst := stepSlot sM c r) (stepSlot_credit_s c r) (stepSend_sem c r)
      (drains sM (Memref.isWhole_whole _) rM (Memref.isWhole_whole _) cc0_scratch2 c l k) Q)
    isplitr; · iexact HR
    isplitl [HO]; · iexact HO
    isplitl [H]; · iexact H
    iintro ⟨HO, H⟩
    iapply (wp_drains c k Q l)
    isplitr; · iexact HR
    isplitl [HO]; · iexact HO
    isplitl [Hl]; · iexact Hl
    iintro ⟨HO, Hl⟩
    iapply Hk
    isplitl [HO]; · iexact HO
    isplitl [H]; · iexact H
    iexact Hl

/-! ## The result -/

/-- The result's staging buffer. -/
abbrev oM : Memref sig .tc .vmem S2048x64 .f32 := Memref.whole cc0_stg2_0

theorem zero2 : (![0, 0] : Fin 2 → Nat) = fun _ => 0 := funext fun a => by fin_cases a <;> rfl
theorem zero3 : (![0, 0, 0] : Fin 3 → Nat) = fun _ => 0 := funext fun a => by fin_cases a <;> rfl

/-- The whole receive buffer stored, as float32, in the result's staging buffer. -/
theorem wp_copyOut (c : Dev nD) (g : FVec F S32x64x64 .bf16) (o : FVec F S2048x64 .f32) (k : KProg F) (Q : PUnit → sProp 𝕄) :
    iprop((((c : Thread nD τ).loc cc0_scratch1) ↦{fullShare} g) ∗ (((c : Thread nD τ).loc cc0_stg2_0) ↦{fullShare} o)
        ∗ (((((c : Thread nD τ).loc cc0_scratch1) ↦{fullShare} g) ∗ (((c : Thread nD τ).loc cc0_stg2_0) ↦{fullShare} k0_pay98 g)) -∗ runs c k Q))
      ⊢ runs c (copyOut oM rM k) Q := by
  unfold copyOut
  iintro ⟨Hr, Ho, Hk⟩
  iapply (wp_load 𝒱₀ (c : Thread nD τ) none Set.univ (m := rM) (Finset.subset_univ _)) $$ Hr; iintro Hr
  rw [show rM.view.readAt (Elt F) (Rect.unit (s := S32x64x64) ![0, 0, 0] S32x64x64.size inb_S32x64x64_S32x64x64_0_0_0).toLoadRect g = g from
    Memref.readAt_unit_zero (Elt F) cc0_scratch1 zero3 _ g]
  iapply (wp_load 𝒱₀ (c : Thread nD τ) none Set.univ (m := oM) (Finset.subset_univ _)) $$ Ho; iintro Ho
  iapply (wp_store 𝒱₀ (c : Thread nD τ) none Set.univ (m := oM)
    (r := Rect.unit (s := S2048x64) ![0, 0] S2048x64.size inb_S2048x64_S2048x64_0_0) (Mk := Finset.univ) (Finset.subset_univ _)) $$ Ho; iintro Ho
  iapply Hk
  isplitl [Hr]; · iexact Hr
  rw [show (oM.access (Rect.unit (s := S2048x64) ![0, 0] S2048x64.size inb_S2048x64_S2048x64_0_0)).write (Elt F) o (k0_pay98 g) Finset.univ = k0_pay98 g from
    Memref.write_access_unit_zero_univ (Elt F) cc0_stg2_0 zero2 _ o (k0_pay98 g)]
  iexact Ho

end Cert.AllToAll

end
-- ==== Proof.Body.lean ====
/-
# The body of one device

From what the launch gives device `c`, its body runs to the end: its two buffers, its semaphores at zero, and in the result's
staging buffer, as float32, the tile `c` of every device's matrix.
-/
module

public import proofs.«01_k».proof.Proof.Transfers
public import proofs.«01_k».proof.Proof.Gen.KernelIdeal.Points

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The memory at launch: arbitrary contents, every semaphore counter zero, arbitrary generator registers. -/
def s₀ : MemSt nD τ sig (Elt F) := ⟨m, fun _ => 0, ρ⟩

/-- Device `c`'s rows of `x`, and the weights, as staged. -/
def xstg (c : Dev nD) : FVec F S64x2048 .bf16 :=
  (win0_0.blk (0 : Fin 1)).view.read (Elt F) (m ((c : Thread nD τ).loc main_arg0))
def wstg (c : Dev nD) : FVec F S2048x2048 .bf16 :=
  (win0_1.blk (0 : Fin 1)).view.read (Elt F) (m ((c : Thread nD τ).loc main_arg1))

/-- Device `c`'s product, clipped at zero and rounded to bfloat16. -/
def prodAt (c : Dev nD) : FVec F S64x2048 .bf16 := k0_pay1 (xstg m c) (wstg m c)

/-- Device `c`'s result. -/
def outAt (c : Dev nD) : FVec F S2048x64 .f32 := k0_pay98 (gathered (prodAt m) c)

/-! ## What a device starts from and ends with -/

/-- Its positions at its cells. -/
def positions (c : Dev nD) : sProp 𝕄 :=
  iprop(atPos ER (barCell c) 0 ∅ 0 ∗ (bigSep Finset.univ fun d : Dev nD => atPos ER (sendCell c d) 0 ∅ 0)
    ∗ bigSep Finset.univ fun s : Dev nD => atPos ER (recvCell c s) 0 ∅ 0)

/-- The tokens of the duties it pays. -/
def payToks (c : Dev nD) : sProp 𝕄 :=
  iprop((bigSep (Finset.univ.erase c) fun d => dutyTok ER (barCell d) 0 c) ∗ (bigSep (Finset.univ.erase c) fun d => dutyTok ER (sendCell c d) 0 d)
    ∗ bigSep (Finset.univ.erase c) fun d => dutyTok ER (recvCell d c) 0 c)

/-- The protocol's ghost state. -/
def ghost (c : Dev nD) : sProp 𝕄 := iprop(∃ K, records (prodAt m) K ∗ positions c ∗ payToks c)

/-- What it starts from: that, the credit for its barrier wait and its receive waits, and the levels. -/
def start (c : Dev nD) : sProp 𝕄 :=
  iprop(ghost m c ∗ cred (tallyAt (barCell c) () 31) ∗ (bigSep (Finset.univ.erase c) fun s => cred (tallyAt (recvCell c s) () N)) ∗ levAts L lv)

/-- The two buffers, whole, at some contents. -/
def bufs (c : Dev nD) : sProp 𝕄 :=
  iprop((∃ f : FVec F S32x64x64 .bf16, ((c : Thread nD τ).loc cc0_scratch0) ↦{fullShare} f)
    ∗ ∃ f : FVec F S32x64x64 .bf16, ((c : Thread nD τ).loc cc0_scratch1) ↦{fullShare} f)

/-- All its semaphores at zero. -/
def zeros (c : Dev nD) : sProp 𝕄 :=
  iprop(semVal (barCell c) 0 ∗ (bigSep Finset.univ fun d : Dev nD => semVal (sendCell c d) 0) ∗ bigSep Finset.univ fun s : Dev nD => semVal (recvCell c s) 0)

def Φ₀ (c : Dev nD) : sProp 𝕄 := iprop(start m c ∗ bufs c)
def Φ₁ (c : Dev nD) : sProp 𝕄 := iprop(bufs c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Families over the other devices -/

omit [FloatOps F] in
/-- Two families over the other devices, as the loops take them. -/
theorem others_sep (c : Dev nD) (Φ Ψ : Dev nD → sProp 𝕄) :
    (bigSepL stepList fun r => iprop(Φ (sh c r) ∗ Ψ (sh c r))) = iprop(bigSep (Finset.univ.erase c) Φ ∗ bigSep (Finset.univ.erase c) Ψ) := by
  rw [← bigSep_sep', bigSep_others c fun d => iprop(Φ d ∗ Ψ d)]

omit [FloatOps F] in
/-- A family over all devices is its member at `c` and the family over the others. -/
theorem all_split (c : Dev nD) (Φ : Dev nD → sProp 𝕄) : bigSep Finset.univ Φ = iprop(Φ c ∗ bigSep (Finset.univ.erase c) Φ) :=
  bigSep_univ_at Φ c

omit [FloatOps F] in
/-- A family over the tiles, as the loop takes it. -/
theorem tiles_eq (Φ : Fin 32 → sProp 𝕄) : bigSep Finset.univ Φ = bigSepL tileList Φ :=
  bigSep_univ_eq_bigSepL tileList (by decide) (by decide) Φ

/-- A cell that no device pays is closed at once. -/
theorem close_idle (P : Dev nD → FVec F S64x2048 .bf16) (K : Dev nD × CellIx → ℕ) (ck : Dev nD × CellIx)
    (h : (a2aRd (F := F) P).duties (kcell ck) 0 = ∅) :
    iprop(records P K ∗ atPos ER (kcell ck) 0 ∅ 0) ⊢ (|={Set.univ}=> semVal (kcell ck) 0 : sProp 𝕄) := by
  iintro ⟨#HR, Hat⟩
  iapply (Rounds.cell_close ER (a2aRd P) (Set.mem_univ (K ck)) (fun h => h) (R := 0) (fun r _ => by
    rcases Nat.eq_zero_or_pos r with rfl | hr
    · exact h
    · exact duties_later P _ r hr))
  isplitr; · iapply (inv_at P K ck); iexact HR
  iexact Hat

omit [FloatOps F] in
theorem duties_send_self (P : Dev nD → FVec F S64x2048 .bf16) (c : Dev nD) : (a2aRd (F := F) P).duties (kcell (sendIx c c)) 0 = ∅ := by
  dsimp only [a2aRd]
  rw [if_pos ⟨rfl, rfl⟩]
  refine Finset.filter_eq_empty_iff.2 fun x _ h => ?_
  rcases h with ⟨hx, h' | h' | h'⟩
  · exact absurd h' (dma_ne_bar _)
  · exact absurd h' (send_ne_recv _ _)
  · exact hx (sub_dev_inj (send_inj h')).symm
omit [FloatOps F] in
theorem duties_recv_self (P : Dev nD → FVec F S64x2048 .bf16) (c : Dev nD) : (a2aRd (F := F) P).duties (kcell (recvIx c c)) 0 = ∅ := by
  dsimp only [a2aRd]
  rw [if_pos ⟨rfl, rfl⟩]
  refine Finset.filter_eq_empty_iff.2 fun x _ h => ?_
  rcases h with ⟨hx, h' | h' | h'⟩
  · exact absurd h' (dma_ne_bar _)
  · exact hx (recv_inj h').symm
  · exact absurd h'.symm (send_ne_recv _ _)

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m c) ∗ stg c cc0_stg1_0 (wstg m c) ∗ stg c cc0_stg2_0 (outAt m c))

omit [FloatOps F] in
theorem read_x (f : (cc0_stg0_0 : Ref sig .tc).ty.Contents (Elt F)) :
    (Memref.whole cc0_stg0_0 : Memref sig .tc .vmem S64x2048 .bf16).view.readAt (Elt F)
      (Rect.unit (s := S64x2048) ![0, 0] S64x2048.size inb_S64x2048_S64x2048_0_0).toLoadRect f = f :=
  Memref.readAt_unit_zero (Elt F) cc0_stg0_0 zero2 _ f
omit [FloatOps F] in
theorem read_w (f : (cc0_stg1_0 : Ref sig .tc).ty.Contents (Elt F)) :
    (Memref.whole cc0_stg1_0 : Memref sig .tc .vmem S2048x2048 .bf16).view.readAt (Elt F)
      (Rect.unit (s := S2048x2048) ![0, 0] S2048x2048.size inb_S2048x2048_S2048x2048_0_0).toLoadRect f = f :=
  Memref.readAt_unit_zero (Elt F) cc0_stg1_0 zero2 _ f

/-- The two loads that begin the product, and the product. -/
def product (arg0 : Memref sig .tc .vmem S64x2048 .bf16) (arg1 : Memref sig .tc .vmem S2048x2048 .bf16)
    (k : FVec F S64x2048 .bf16 → KProg F) : KProg F :=
  Prog.op (.load arg0 (Rect.unit (s := S64x2048) ![0, 0] S64x2048.size inb_S64x2048_S64x2048_0_0).toLoadRect (View.loadsAt_vmem h_S64x2048)) fun x =>
  Prog.op (.load arg1 (Rect.unit (s := S2048x2048) ![0, 0] S2048x2048.size inb_S2048x2048_S2048x2048_0_0).toLoadRect (View.loadsAt_vmem h_S2048x2048)) fun w =>
  k (k0_pay1 x w)

theorem wp_product (c : Dev nD) (x : FVec F S64x2048 .bf16) (w : FVec F S2048x2048 .bf16) (k : FVec F S64x2048 .bf16 → KProg F)
    (Q : PUnit → sProp 𝕄) :
    iprop((((c : Thread nD τ).loc cc0_stg0_0) ↦{fullShare} x) ∗ (((c : Thread nD τ).loc cc0_stg1_0) ↦{fullShare} w)
        ∗ (((((c : Thread nD τ).loc cc0_stg0_0) ↦{fullShare} x) ∗ (((c : Thread nD τ).loc cc0_stg1_0) ↦{fullShare} w)) -∗ runs c (k (k0_pay1 x w)) Q))
      ⊢ runs c (product (Memref.whole cc0_stg0_0) (Memref.whole cc0_stg1_0) k) Q := by
  unfold product
  iintro ⟨Hx, Hw, Hk⟩
  iapply (wp_load 𝒱₀ (c : Thread nD τ) none Set.univ (m := (Memref.whole cc0_stg0_0 : Memref sig .tc .vmem S64x2048 .bf16)) (Finset.subset_univ _)) $$ Hx; iintro Hx
  rw [read_x]
  iapply (wp_load 𝒱₀ (c : Thread nD τ) none Set.univ (m := (Memref.whole cc0_stg1_0 : Memref sig .tc .vmem S2048x2048 .bf16)) (Finset.subset_univ _)) $$ Hw; iintro Hw
  rw [read_w]
  iapply Hk
  isplitl [Hx]; · iexact Hx
  iexact Hw

/-- The body's loops at the buffers of the launch, with the two loads under one name. -/
theorem loops_product (c : Dev nD) :
    (loops (Memref.whole cc0_stg0_0) (Memref.whole cc0_stg1_0) oM sM (Memref.isWhole_whole _) rM (Memref.isWhole_whole _) cc0_scratch2 cc0_scratch3 c : KProg F)
      = signals (sigList c) (product (Memref.whole cc0_stg0_0) (Memref.whole cc0_stg1_0) fun p =>
          tiles sM (Memref.isWhole_whole _) rM (Memref.isWhole_whole _) c p tileList <|
          Prog.op (.semWait barS (31#32 : BitVec 32).toInt) fun _ =>
          sends sM (Memref.isWhole_whole _) rM (Memref.isWhole_whole _) cc0_scratch2 cc0_scratch3 c (sendList c) <|
          recvs sM (Memref.isWhole_whole _) rM (Memref.isWhole_whole _) cc0_scratch3 c stepList <|
          copyOut oM rM <|
          drains sM (Memref.isWhole_whole _) rM (Memref.isWhole_whole _) cc0_scratch2 c stepList (Prog.ret ⟨⟩)) := rfl

set_option maxHeartbeats 400000 in
/-- The body's loops, in order. -/
theorem sound_loops (c : Dev nD) (K : Dev nD × CellIx → ℕ) (W : Waits sig Unit) (o : FVec F S2048x64 .f32) (Q : PUnit → sProp 𝕄) :
    iprop((records (prodAt m) K ∗ positions c ∗ payToks c)
        ∗ (cred (tallyAt (barCell c) () 31) ∗ (bigSep (Finset.univ.erase c) fun s => cred (tallyAt (recvCell c s) () N)) ∗ levAts L lv)
        ∗ bufs c ∗ owes (c : Thread nD τ) (O₀ c) W
        ∗ (((c : Thread nD τ).loc cc0_stg0_0) ↦{fullShare} xstg m c) ∗ (((c : Thread nD τ).loc cc0_stg1_0) ↦{fullShare} wstg m c)
        ∗ (((c : Thread nD τ).loc cc0_stg2_0) ↦{fullShare} o)
        ∗ ((Φ₁ c ∗ (∃ W, owes (c : Thread nD τ) 0 W)
            ∗ (((c : Thread nD τ).loc cc0_stg0_0) ↦{fullShare} xstg m c) ∗ (((c : Thread nD τ).loc cc0_stg1_0) ↦{fullShare} wstg m c)
            ∗ (((c : Thread nD τ).loc cc0_stg2_0) ↦{fullShare} outAt m c)) -∗ Q ⟨⟩))
      ⊢ runs c (loops (Memref.whole cc0_stg0_0) (Memref.whole cc0_stg1_0) oM sM (Memref.isWhole_whole _) rM (Memref.isWhole_whole _)
          cc0_scratch2 cc0_scratch3 c) Q := by
  unfold positions payToks bufs
  rw [loops_product, sigList_eq, others, sendList_eq, all_split c (fun d => atPos ER (sendCell c d) 0 ∅ 0), all_split c (fun s => atPos ER (recvCell c s) 0 ∅ 0)]
  iintro ⟨⟨#HR, ⟨HaB, ⟨HaS0, HaS⟩, HaV0, HaV⟩, HtB, HtS, HtV⟩, ⟨HcB, HcV, #Hlev⟩, ⟨⟨%f0, Hs⟩, ⟨%f1, Hr⟩⟩, HO, Hx, Hw, Ho, Hk⟩
  -- the two buffers, cut in slots
  ihave Hs := (Entails.of_eq ((sPts_all c f0).trans (tiles_eq fun t => sPts c t f0))) $$ Hs
  ihave Hs := (show (bigSepL tileList fun t => sPts c t f0) ⊢ (bigSepL tileList fun t => iprop(∃ f, sPts c t f) : sProp 𝕄) from
    bigSepL_mono fun t _ => by iintro H; iexists f0; iexact H) $$ Hs
  ihave Hr := (Entails.of_eq ((rPts_all c f1).trans (all_split c fun t => rPts c t f1))) $$ Hr
  icases Hr with ⟨Hr0, Hr⟩
  ihave Hr := (show (bigSep (Finset.univ.erase c) fun t => rPts c t f1) ⊢ (bigSep (Finset.univ.erase c) fun t => iprop(∃ f, rPts c t f) : sProp 𝕄) from
    bigSep_mono fun t _ => (show rPts c t f1 ⊢ (iprop(∃ f, rPts c t f) : sProp 𝕄) from by iintro H; iexists f1; iexact H)) $$ Hr
  -- the signals
  ihave HO := (Entails.of_eq (congrArg (fun O => (owes (c : Thread nD τ) O W : sProp 𝕄)) (show O₀ c = _ from congrArg (Orecv c + ·) (sum_others c fun d => (tallyAt (barCell d) () 1 : CellTallies nD τ sig Unit))))) $$ HO
  ihave Hrt := (Entails.of_eq (others_sep c (fun d => dutyTok ER (barCell d) 0 c) (fun d => iprop(∃ f, rPts c d f))).symm) $$ [HtB Hr]
  · isplitl [HtB]; · iexact HtB
    iexact Hr
  iapply (wp_signals (prodAt m) K c (Orecv c) W _ Q stepList)
  isplitr; · iexact HR
  isplitl [HO]; · iexact HO
  isplitl [Hrt]; · iexact Hrt
  iintro HO
  -- the product
  iapply (wp_product c (xstg m c) (wstg m c) _ Q)
  isplitl [Hx]; · iexact Hx
  isplitl [Hw]; · iexact Hw
  iintro ⟨Hx, Hw⟩
  -- the tiles
  iapply (wp_tiles (prodAt m) c _ Q tileList f1)
  isplitl [Hs]; · iexact Hs
  isplitl [Hr0]; · iexact Hr0
  rw [if_pos ((show ∀ t : Fin 32, t ∈ tileList by decide) c)]
  iintro ⟨Hs, Hr0⟩
  -- the barrier
  iapply (wp_barrier (prodAt m) K c W _ Q)
  isplitr; · iexact HR
  isplitr; · iexact Hlev
  isplitl [HcB]; · iexact HcB
  isplitl [HO]; · iexact HO
  isplitl [HaB]; · iexact HaB
  iintro ⟨HO, HzB, Hn⟩
  -- the transfers
  ihave Hs := (Entails.of_eq ((tiles_eq fun t => sPts c t (packed (prodAt m c))).symm.trans (all_split c fun t => sPts c t (packed (prodAt m c))))) $$ Hs
  icases Hs with ⟨Hs0, Hs⟩
  ihave HO := (Entails.of_eq (congrArg (fun O => (owes (c : Thread nD τ) O (insert (SemLoc.reg barS, ()) W) : sProp 𝕄))
    (show Orecv c = _ from sum_others c fun d => (tallyAt (recvCell d c) () N : CellTallies nD τ sig Unit)))) $$ HO
  ihave Hh := (show iprop((bigSep (Finset.univ.erase c) fun d => sPts c d (packed (prodAt m c))) ∗ (bigSep (Finset.univ.erase c) fun d => iprop(∃ f, rPts d c f))
        ∗ (bigSep (Finset.univ.erase c) fun d => dutyTok ER (sendCell c d) 0 d) ∗ bigSep (Finset.univ.erase c) fun d => dutyTok ER (recvCell d c) 0 c)
      ⊢ (bigSepL stepList fun r => handIn (prodAt m) c (sh c r) : sProp 𝕄) from Entails.of_eq (by
        rw [← bigSep_others c (handIn (prodAt m) c)]; unfold handIn; rw [bigSep_sep', bigSep_sep', bigSep_sep'])) $$ [Hs Hn HtS HtV]
  · isplitl [Hs]; · iexact Hs
    isplitl [Hn]; · iexact Hn
    isplitl [HtS]; · iexact HtS
    iexact HtV
  iapply (wp_sends (prodAt m) K c (insert (SemLoc.reg barS, ()) W) _ Q stepList)
  isplitr; · iexact HR
  isplitl [HO]; · iexact HO
  isplitl [Hh]; · iexact Hh
  iintro ⟨HO, HcS⟩
  -- the receive waits
  ihave HV := (Entails.of_eq (others_sep c (fun s => cred (tallyAt (recvCell c s) () N)) (fun s => atPos ER (recvCell c s) 0 ∅ 0)).symm) $$ [HcV HaV]
  · isplitl [HcV]; · iexact HcV
    iexact HaV
  iapply (wp_recvs (prodAt m) K c _ Q stepList)
  isplitr; · iexact HR
  isplitl [HO]; · iexists _; iexact HO
  isplitl [HV]; · iexact HV
  iintro ⟨HO, HV⟩
  ihave HV := (Entails.of_eq (others_sep c (fun s => rPts c s (gathered (prodAt m) c)) (fun s => semVal (recvCell c s) 0))) $$ HV
  icases HV with ⟨Hr, HzV⟩
  ihave Hr := (Entails.of_eq ((rPts_all c (gathered (prodAt m) c)).trans (all_split c fun t => rPts c t (gathered (prodAt m) c))).symm) $$ [Hr0 Hr]
  · isplitl [Hr0]; · iexact Hr0
    iexact Hr
  -- the result
  iapply (wp_copyOut c (gathered (prodAt m) c) o _ Q)
  isplitl [Hr]; · iexact Hr
  isplitl [Ho]; · iexact Ho
  iintro ⟨Hr, Ho⟩
  -- the send waits
  ihave HcS := (Entails.of_eq (bigSep_others c fun d => (cred (tallyAt (sendCell c d) () N) : sProp 𝕄)).symm) $$ HcS
  ihave HS := (Entails.of_eq (others_sep c (fun d => cred (tallyAt (sendCell c d) () N)) (fun d => atPos ER (sendCell c d) 0 ∅ 0)).symm) $$ [HcS HaS]
  · isplitl [HcS]; · iexact HcS
    iexact HaS
  iapply (wp_drains (prodAt m) K c _ Q stepList)
  isplitr; · iexact HR
  isplitl [HO]; · iexact HO
  isplitl [HS]; · iexact HS
  iintro ⟨HO, HS⟩
  ihave HS := (Entails.of_eq (others_sep c (fun d => sPts c d (packed (prodAt m c))) (fun d => semVal (sendCell c d) 0))) $$ HS
  icases HS with ⟨Hs, HzS⟩
  ihave Hs := (Entails.of_eq ((sPts_all c (packed (prodAt m c))).trans (all_split c fun t => sPts c t (packed (prodAt m c)))).symm) $$ [Hs0 Hs]
  · isplitl [Hs0]; · iexact Hs0
    iexact Hs
  -- the two cells no device pays
  imod (close_idle (prodAt m) K (sendIx c c) (duties_send_self (prodAt m) c)) $$ [HaS0] with HzS0
  · isplitr; · iexact HR
    iexact HaS0
  imod (close_idle (prodAt m) K (recvIx c c) (duties_recv_self (prodAt m) c)) $$ [HaV0] with HzV0
  · isplitr; · iexact HR
    iexact HaV0
  rw [wp_ret]; imodintro
  iapply Hk
  unfold Φ₁ bufs zeros
  rw [all_split c (fun d => semVal (sendCell c d) 0), all_split c (fun s => semVal (recvCell c s) 0)]
  isplitl [Hs Hr HzB HzS0 HzS HzV0 HzV]
  · isplitl [Hs Hr]
    · isplitl [Hs]; · iexists _; iexact Hs
      iexists _; iexact Hr
    isplitl [HzB]; · iexact HzB
    isplitl [HzS0 HzS]
    · isplitl [HzS0]; · iexact HzS0
      iexact HzS
    isplitl [HzV0]; · iexact HzV0
    iexact HzV
  isplitl [HO]; · iexact HO
  isplitl [Hx]; · iexact Hx
  isplitl [Hw]; · iexact Hw
  unfold outAt
  iexact Ho

/-- The printed body at the buffers of the launch. -/
abbrev printed : KProg F :=
  cc0_body (Memref.whole cc0_stg0_0) (Memref.isWhole_whole _) (Memref.whole cc0_stg1_0) (Memref.isWhole_whole _)
    oM (Memref.isWhole_whole _) sM (Memref.isWhole_whole _) rM (Memref.isWhole_whole _) cc0_scratch2 cc0_scratch3

/-- The body runs from `bodyPre` to `bodyPost`. -/
theorem sound_body (c : Dev nD) (Q : PUnit → sProp 𝕄) :
    iprop(bodyPre m ρ c ∗ (bodyPost m ρ c -∗ Q ⟨⟩)) ⊢ runs c printed Q := by
  unfold printed runs
  rw [body_loops, wp_deviceId]
  unfold bodyPre Φ₀ start ghost
  iintro ⟨⟨⟨⟨⟨%K, Hg⟩, Hc⟩, Hb⟩, Ho, ⟨%d0, %g0, %hg0, Hx⟩, ⟨%d1, %g1, %hg1, Hw⟩, ⟨%d2, %g2, %hg2, Hout⟩⟩, Hk⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iapply (sound_loops m c K W g2 Q)
  isplitl [Hg]; · iexact Hg
  isplitl [Hc]; · iexact Hc
  isplitl [Hb]; · iexact Hb
  isplitl [HO]; · iexact HO
  isplitl [Hx]; · iexact Hx
  isplitl [Hw]; · iexact Hw
  isplitl [Hout]; · iexact Hout
  iintro ⟨HΦ, ⟨%W', HO⟩, Hx, Hw, Hout⟩
  iapply Hk
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The pipeline's obligation for the body, on every device. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ runs c printed (fun _ => bodyPost m ρ c)
  iintro H
  iapply (sound_body m ρ c fun _ => bodyPost m ρ c)
  isplitl [H]; · iexact H
  iintro H; iexact H

end Cert.AllToAll

end
-- ==== Proof.Launch.lean ====
/-
# The launch

At the start each device is given the tokens of the duties of its own cells. One step over the whole mesh opens every cell's
invariant and hands each token to the device that pays the duty; from there each device runs its body, and every execution ends.
-/
module

public import proofs.«01_k».proof.Proof.Body
public import Idealize.ShloMosaic.Lib.Pipeline.CollectiveSegs

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: thirty-two to send on, thirty-two to receive on. -/
abbrev osem (k : Fin 32 ⊕ Fin 32) : SemLoc sig := csem (.inr k)

theorem ownSemFacts : Pipeline.OwnSemFacts cfg0.spec osem := by decide

theorem share_eq (c : Dev nD) (w : Fin cfg0.W) : (dats m ρ 0 c).share w = fullShare := by unfold Dat.share; split <;> rfl

/-! ## A device's cells as one family -/

/-- Turning the devices so that `c` comes first. -/
def turn (c : Dev nD) : Dev nD ≃ Fin 32 :=
  Equiv.ofBijective (fun d : Fin 32 => d - c) (Finite.injective_iff_bijective.1 fun _ _ => sub_dev_inj)

omit [FloatOps F] in
/-- A family over device `c`'s cells: at the barrier, at the send cells by target, at the receive cells by source. -/
theorem cells_split (c : Dev nD) (Φ : GSem nD τ sig → sProp 𝕄) :
    (bigSep Finset.univ fun k : CellIx => Φ (kcell (c, k)))
      = iprop(Φ (barCell c) ∗ (bigSep Finset.univ fun d : Dev nD => Φ (sendCell c d)) ∗ bigSep Finset.univ fun s : Dev nD => Φ (recvCell c s)) := by
  rw [bigSep_univ_sum, bigSep_univ_sum, bigSep_univ_of_subsingleton (), bigSep_univ_equiv (turn c) (fun b : Fin 32 => Φ (kcell (c, .inr (.inl b))))]
  rfl

/-! ## The launch element -/

def a2aCells : Finset (GSem nD τ sig) := Finset.univ.map ⟨kcell, kcell_injective⟩

/-- The tokens of the duties of device `c`'s own cells, by the other device of the duty. -/
def tokOf : Dev nD × (Dev nD × Fin 3) → GSem nD τ sig × ℕ × Dev nD
  | (c, d, 0) => (barCell c, 0, d)
  | (c, d, 1) => (sendCell c d, 0, d)
  | (c, d, 2) => (recvCell c d, 0, d)

theorem tokOf_injective : Function.Injective tokOf := by
  rintro ⟨c, d, j⟩ ⟨c', d', j'⟩ h
  have h1 : c = c' := by
    have := congrArg (fun x : GSem nD τ sig × ℕ × Dev nD => x.1.1.1) h
    fin_cases j <;> fin_cases j' <;> exact this
  have h2 : d = d' := by
    have := congrArg (fun x : GSem nD τ sig × ℕ × Dev nD => x.2.2) h
    fin_cases j <;> fin_cases j' <;> exact this
  subst h1 h2
  have h3 := congrArg (fun x : GSem nD τ sig × ℕ × Dev nD => x.1.2) h
  have : j = j' := by
    fin_cases j <;> fin_cases j' <;>
      first
        | rfl
        | exact absurd h3 (dma_ne_bar _)
        | exact absurd h3.symm (dma_ne_bar _)
        | exact absurd h3 (send_ne_recv _ _)
        | exact absurd h3.symm (send_ne_recv _ _)
  rw [this]
def a2aToks : Finset (GSem nD τ sig × ℕ × Dev nD) := Finset.univ.map ⟨tokOf, tokOf_injective⟩

def u₀ : UU :=
  (initOf (Pipeline.cells cfgs cellOf_inj) (Pipeline.launchToks cfgs cellOf_inj), initOf a2aCells a2aToks)

def toks (c : Dev nD) : sProp 𝕄 :=
  bigSep Finset.univ fun d : Dev nD => iprop(dutyTok ER (barCell c) 0 d ∗ dutyTok ER (sendCell c d) 0 d ∗ dutyTok ER (recvCell c d) 0 d)

/-- What device `c` is given at the start. -/
def G (c : Dev nD) : sProp 𝕄 :=
  iprop((bigSep Finset.univ fun k : CellIx => roundState ER (a2aRd (prodAt m)) (kcell (c, k)) 0)
    ∗ (bigSep Finset.univ fun k : CellIx => iprop(atPos ER (kcell (c, k)) 0 ∅ 0 ∗ reached ER (kcell (c, k)) 0)) ∗ toks c)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

theorem fund_cells : BI.own (ER (initOf a2aCells a2aToks)) ⊢ (|==> bigSep Finset.univ (G m) : sProp 𝕄) := by
  have hX (Φ : GSem nD τ sig → sProp 𝕄) : bigSep a2aCells Φ = bigSep Finset.univ fun c : Dev nD => bigSep Finset.univ fun k : CellIx => Φ (kcell (c, k)) := by
    unfold a2aCells; rw [bigSep_map, bigSep_univ_prod]; rfl
  have hT : bigSep a2aToks (fun x => (dutyTok ER x.1 x.2.1 x.2.2 : sProp 𝕄)) = bigSep Finset.univ fun c : Dev nD => toks c := by
    unfold a2aToks; rw [bigSep_map, bigSep_univ_prod]
    exact bigSep_congr fun c _ => by
      unfold toks; rw [bigSep_univ_prod]
      exact bigSep_congr fun d _ => by rw [bigSep_three]; rfl
  iintro HX
  imod (Rounds.fund ER (a2aRd (prodAt m)) a2aCells a2aToks) $$ HX with ⟨Hst, Hr, Hat, Htok⟩
  imodintro
  ihave Hst' := (Entails.of_eq (hX fun g => roundState ER (a2aRd (prodAt m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The step over the whole mesh -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores at zero, as its send cells and its receive cells. -/
theorem ownSems0_eq (c : Dev nD) : (Pipeline.ownSems0 (Ix := Unit) (Name := ℕ) (U := UU) (Lvl := ℕ) (Val := Elt F) (τ := τ) osem c : sProp 𝕄)
    = iprop((bigSep Finset.univ fun d : Dev nD => semVal (sendCell c d) 0) ∗ bigSep Finset.univ fun s : Dev nD => semVal (recvCell c s) 0) := by
  unfold Pipeline.ownSems0
  rw [bigSep_univ_sum, bigSep_univ_equiv (turn c) (fun b : Fin 32 => (semVal ((c : Thread nD τ), osem (.inl b)) 0 : sProp 𝕄))]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, cells_split c fun g => semVal g 0]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (a2aRd (prodAt m)) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (a2aRd (prodAt m)) (kcell (c, k)) 0)
      ⊢ (|={Set.univ}=> bigSep Finset.univ fun k : CellIx => iprop(∃ κ : ℕ, cellInv ER (a2aRd (prodAt m)) κ (kcell (c, k))) : sProp 𝕄) from by
        rw [← bigSep_sep']
        exact (bigSep_mono fun k _ => (Rounds.body_intro ER (a2aRd (prodAt m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over all pairs of devices, without the pairs of a device with itself, and with the roles of the two exchanged. -/
theorem pairs_swap (Φ : Dev nD → Dev nD → sProp 𝕄) :
    (bigSep Finset.univ fun c : Dev nD => bigSep Finset.univ fun d : Dev nD => Φ c d)
      ⊢ bigSep Finset.univ fun c : Dev nD => bigSep (Finset.univ.erase c) fun d => Φ d c :=
  (bigSep_mono fun c _ => bigSep_subset (Finset.erase_subset c Finset.univ)).trans (Entails.of_eq (bigSep_erase_comm Φ))

omit [FloatOps F] in
/-- The tokens go to the devices that pay the duties: a barrier's and a receive cell's to the other device of the duty, a send
    cell's to its owner. -/
theorem toks_around : (bigSep Finset.univ fun c : Dev nD => (toks c : sProp 𝕄)) ⊢ bigSep Finset.univ fun c : Dev nD => payToks c := by
  unfold toks payToks
  simp only [bigSep_sep']
  iintro ⟨H1, H2, H3⟩
  isplitl [H1]; · iapply (pairs_swap fun c d : Dev nD => (dutyTok ER (barCell c) 0 d : sProp 𝕄)); iexact H1
  isplitl [H2]
  · iapply (show (bigSep Finset.univ fun c : Dev nD => bigSep Finset.univ fun d : Dev nD => (dutyTok ER (sendCell c d) 0 d : sProp 𝕄))
      ⊢ bigSep Finset.univ fun c : Dev nD => bigSep (Finset.univ.erase c) fun d => dutyTok ER (sendCell c d) 0 d from
        bigSep_mono fun c _ => bigSep_subset (Finset.erase_subset c Finset.univ))
    iexact H2
  iapply (pairs_swap fun c d : Dev nD => (dutyTok ER (recvCell c d) 0 d : sProp 𝕄)); iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CellIx → ℕ) (c : Dev nD) : iprop(records (prodAt m) K ∗ positions c ∗ payToks c) ⊢ ghost m c := by
  unfold ghost
  iintro H
  iexists K
  iexact H

theorem regroup :
    (bigSep Finset.univ fun c : Dev nD => iprop((bigSep Finset.univ fun k : CellIx => iprop(∃ κ : ℕ, cellInv ER (a2aRd (prodAt m)) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × CellIx => iprop(∃ κ : ℕ, cellInv ER (a2aRd (prodAt m)) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (a2aRd (prodAt m)) κ (kcell ck) : sProp 𝕄))) $$ HI
  icases HK with ⟨%K, #HI⟩
  ihave Htk := (toks_around (F := F)) $$ Htok
  iapply (bigSep_with_persistent (R := records (prodAt m) K) fun c _ => ghost_intro m K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄)) payToks).symm).trans
      (bigSep_mono fun c _ => show _ ⊢ iprop(positions c ∗ payToks c) from Entails.of_eq (by unfold positions; rw [cells_split c fun g => atPos ER g 0 ∅ 0])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The credit at launch -/

omit [FloatOps F] in
theorem tallies_at (s : Finset (Dev nD)) (f : Dev nD → GSem nD τ sig) (hf : Function.Injective f) (n : ℕ) (c : Dev nD) :
    (∑ e ∈ s, tallyAt (f e) () n : CellTallies nD τ sig Unit) (f c) () = if c ∈ s then n else 0 := by
  rw [Finset.sum_apply, Finsupp.finset_sum_apply, Finset.sum_congr rfl fun e _ => (tallyAt_apply _ _ _ _ _).trans
    (if_congr (show (f c = f e ∧ () = ()) ↔ c = e from ⟨fun h => hf h.1, fun h => ⟨congrArg f h, rfl⟩⟩) rfl rfl), Finset.sum_ite_eq]
omit [FloatOps F] in
theorem tallies_ne (s : Finset (Dev nD)) (f : Dev nD → GSem nD τ sig) (n : ℕ) (g : GSem nD τ sig) (h : ∀ e, g ≠ f e) :
    (∑ e ∈ s, tallyAt (f e) () n : CellTallies nD τ sig Unit) g () = 0 :=
  Nat.eq_zero_of_not_pos fun hp => (sum_pos hp).elim h

omit [FloatOps F] in
theorem owed_bar (d c : Dev nD) : O₀ d (barCell c) () = if d ≠ c then 1 else 0 := by
  unfold O₀ Orecv Obar
  rw [Pi.add_apply, Finsupp.add_apply, tallies_ne _ _ _ _ (fun e h => dma_ne_bar _ (congrArg Prod.snd h).symm), Nat.zero_add,
    tallies_at _ barCell (fun a b h => congrArg (fun g : GSem nD τ sig => g.1.1) h)]
  exact if_congr (by rw [Finset.mem_erase]; exact ⟨fun h => h.1.symm, fun h => ⟨h.symm, Finset.mem_univ _⟩⟩) rfl rfl

omit [FloatOps F] in
theorem owed_recv (d c s : Dev nD) (hs : s ≠ c) : O₀ d (recvCell c s) () = if d = s then N else 0 := by
  unfold O₀ Orecv Obar
  rw [Pi.add_apply, Finsupp.add_apply, tallies_ne _ barCell _ _ (fun e h => dma_ne_bar _ (congrArg Prod.snd h)), Nat.add_zero]
  by_cases h : d = s
  · subst h
    rw [if_pos rfl, tallies_at _ (fun e => recvCell e d) (fun a b h => congrArg (fun g : GSem nD τ sig => g.1.1) h)]
    exact if_pos (Finset.mem_erase.2 ⟨hs.symm, Finset.mem_univ _⟩)
  · rw [if_neg h]
    exact tallies_ne _ _ _ _ fun e h' => h (recv_inj (congrArg Prod.snd h')).symm

omit [FloatOps F] in
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_boole, Finset.filter_ne',
    Finset.card_erase_of_mem (Finset.mem_univ c), Finset.card_univ, Fintype.card_fin]
  rfl

omit [FloatOps F] in
theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

/-- The receive semaphores, by source. -/
def recvLoc : Dev nD ↪ SemLoc sig := ⟨fun s => .dma (recvSem s), fun _ _ h => recv_inj h⟩

omit [FloatOps F] in
theorem creds (c : Dev nD) :
    (Pipeline.launchCred O₀ c : sProp 𝕄)
      ⊢ iprop(cred (tallyAt (barCell c) () 31) ∗ bigSep (Finset.univ.erase c) fun s => cred (tallyAt (recvCell c s) () N)) := by
  unfold Pipeline.launchCred
  rw [bigSep_univ_at _ (SemLoc.reg barS), launch_bar]
  refine sep_mono_right ?_
  have h : bigSep ((Finset.univ.erase c).map recvLoc)
      (fun sm : SemLoc sig => (cred (tallyOn ((c : Thread nD τ), sm) (launchCredit (Pipeline.owing O₀) 0 ((c : Thread nD τ), sm))) : sProp 𝕄))
      = bigSep (Finset.univ.erase c) fun s => cred (tallyAt (recvCell c s) () N) := by
    rw [bigSep_map]
    exact bigSep_congr fun s hs => congrArg (fun O => (cred O : sProp 𝕄)) (launch_recv c s (Finset.mem_erase.1 hs).1)
  rw [← h]
  refine bigSep_subset fun x hx => ?_
  obtain ⟨s, -, rfl⟩ := Finset.mem_map.1 hx
  exact Finset.mem_erase.2 ⟨dma_ne_bar _, Finset.mem_univ _⟩

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs zeros
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Array `w` of device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of thirty-two devices, at any float values, from any memory with the counters at zero: every weakly fair
    execution ends, with every device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := ghost m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllToAll

end
-- ==== Proof.Value.lean ====
/-
# What the run leaves in the arrays

The arguments end as they began, and device `c`'s result is the matrix of the tiles it gathered. At the ideal values an entry of
that matrix is the positive part of one dot product of a row of `x`, held by the device that sent the tile, with a column of `w`.
That is the entry the one-device program computes, so a device's result is its block of columns of the whole.
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.Layout

@[expose] public section

noncomputable section

namespace Cert.AllToAll

open Cert.KernelIdeal Cert.KernelIdeal.Gen

open Idealize.ShloMosaic
open Idealize.ShloMosaic.TcCoe
open Idealize.ShloMosaic.ValueIdx
open Idealize.SL.Sem
open scoped BigOperators

section Arrays

variable {F : FTy → Type} [FloatOps F]
variable (m : (ℓ : Loc nD τ sig) → Buf (Elt F) ℓ) (ρ : Dev nD → PrngReg)

/-- The arguments are inputs: the arrays end as they began. -/
theorem finalA_x (c : Dev nD) : finalA m ρ c (0 : Fin 3) = m ((c : Thread nD τ).loc main_arg0) :=
  (dats (F := F) m ρ 0 c).arrAt_in (0 : Fin 3) rfl _

theorem finalA_w (c : Dev nD) : finalA m ρ c (1 : Fin 3) = m ((c : Thread nD τ).loc main_arg1) :=
  (dats (F := F) m ρ 0 c).arrAt_in (1 : Fin 3) rfl _

/-- Every window is its whole array, so reading its one block reads the array. -/
theorem arr_x (c : Dev nD) (v : Buf (Elt F) ((c : Thread nD τ).loc main_arg0)) :
    (win0_0.blk (0 : Fin 1)).view.read (Elt F) v = v := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) v

theorem arr_w (c : Dev nD) (v : Buf (Elt F) ((c : Thread nD τ).loc main_arg1)) :
    (win0_1.blk (0 : Fin 1)).view.read (Elt F) v = v := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) v

theorem arr_out (c : Dev nD) (v : Buf (Elt F) ((c : Thread nD τ).loc main_v1)) :
    (win0_2.blk (0 : Fin 1)).view.read (Elt F) v = v := by
  have hz : (fun a => win0_2.index (0 : Fin 1) a * main_v1.ty.shape.size a) = fun _ => 0 := funext fun a => by fin_cases a <;> decide
  exact Memref.read_access_unit_zero (Elt F) main_v1 hz (fun a => by rw [congrFun hz a]; simp) v

theorem xstg_eq (c : Dev nD) : xstg m c = m ((c : Thread nD τ).loc main_arg0) := arr_x c _

theorem wstg_eq (c : Dev nD) : wstg m c = m ((c : Thread nD τ).loc main_arg1) := arr_w c _

/-- The result array ends holding what the body left in its staging buffer. -/
theorem finalA_out (c : Dev nD) : finalA m ρ c (2 : Fin 3) = outAt m c := by
  have h : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  exact (arr_out c _).symm.trans h

end Arrays

/-! ## An entry of the result at the ideal values -/

/-- The positive part of row `r` of `x` times column `j` of `w`. -/
def entry {M N : ℕ} (x : FVec Ideal ⟨2, ![M, 2048]⟩ .bf16) (w : FVec Ideal ⟨2, ![2048, N]⟩ .bf16) (r : Fin M) (j : Fin N) : EReal :=
  max (∑ k : Fin 2048, x (ix2 r k) * w (ix2 k j)) 0

theorem pay1_apply (x : FVec Ideal S64x2048 .bf16) (w : FVec Ideal S2048x2048 .bf16) (r : Fin 64) (j : Fin 2048) :
    k0_pay1 (F := Ideal) x w (ix2 r j) = entry x w r j := by
  have h := Ideal.matmul_plain_apply (M := 64) (K := 2048) (N := 2048) (φ₁ := .bf16) (φ₂ := .bf16) none x w
    (constant S64x2048 .f32 0x00000000#32) r j
  rw [show constant (F := Ideal) S64x2048 .f32 0x00000000#32 (ix2 r j) = (0 : EReal) from Ideal.ofBits_zero_f32, zero_add] at h
  unfold k0_pay1 entry
  rw [shapeCast_self, shapeCast_self]
  exact congrArg₂ max h Ideal.ofBits_zero_f32

/-- Entry `(r, j)` of what device `c` gathered: row `r` is row `r mod 64` of device `r / 64`. -/
theorem pay98_apply (P : Dev nD → FVec Ideal S64x2048 .bf16) (c : Dev nD) (s : Dev nD) (i j : Fin 64) (r : Fin 2048) (n : Fin 2048)
    (hr : r.val = 64 * s.val + i.val) (hn : n.val = 64 * c.val + j.val) :
    k0_pay98 (F := Ideal) (gathered P c) (ix2 r j) = P s (ix2 i n) := by
  show shapeCast S2048x64 (gathered P c) shapeCasts_S32x64x64_S2048x64 (ix2 r j) = _
  rw [shapeCast_apply (gathered P c) shapeCasts_S32x64x64_S2048x64 (ix2 r j) (ix3 s i j) (by
    rw [Shape.rowMajor_val_three, Shape.rowMajor_val_two]
    show (s.val * 64 + i.val) * 64 + j.val = r.val * 64 + j.val
    omega)]
  unfold gathered packed
  exact congrArg (P s) (congrArg (ix2 i) (Fin.ext hn.symm))

/-! ## The one-device program's result -/

/-- What the one-device program computes of the whole `x` and `w`. -/
def whole (x w : FVec Ideal ⟨2, ![2048, 2048]⟩ .bf16) : FVec Ideal ⟨2, ![2048, 2048]⟩ .f32 :=
  maximumf (extf .f32 (truncf .bf16 (Host.dotGeneral Cert.ReferenceIdeal.dot_S2048x2048_S2048x2048_S2048x2048_1_0_0_1_n_n none x w)
      Cert.ReferenceIdeal.Gen.facts.bitsLt_bf16_f32) Cert.ReferenceIdeal.Gen.facts.bitsLt_bf16_f32)
    (broadcastInDim Cert.ReferenceIdeal.S2048x2048 ![] Cert.ReferenceIdeal.Gen.facts.bcast_S_S2048x2048
      (constant Cert.ReferenceIdeal.S_ .f32 0x00000000#32))

theorem whole_apply (x w : FVec Ideal ⟨2, ![2048, 2048]⟩ .bf16) (r n : Fin 2048) : whole x w (ix2 r n) = entry x w r n := by
  have h := StackMember.dotGeneral_plain_apply (m := 2048) (k := 2048) (n := 2048) (φ₁ := .bf16) (φ₂ := .bf16) none x w r n
  exact congrArg₂ max h Ideal.ofBits_zero_f32

/-- Device `c`'s result is its block of columns of the whole result, when every device holds its block of rows of `x` and all of `w`. -/
theorem outAt_eq (m : (ℓ : Loc nD τ sig) → Buf (Elt Ideal) ℓ) (x w : FVec Ideal ⟨2, ![2048, 2048]⟩ .bf16)
    (hx : ∀ c : Dev nD, m ((c : Thread nD τ).loc main_arg0) = Layout.block ⟨2, ![64, 2048]⟩ ⟨2, ![2048, 2048]⟩ 0 32 c x)
    (hw : ∀ c : Dev nD, m ((c : Thread nD τ).loc main_arg1) = w) (c : Dev nD) :
    outAt m c = Layout.block ⟨2, ![2048, 64]⟩ ⟨2, ![2048, 2048]⟩ 1 32 c (whole x w) := by
  funext i
  obtain ⟨r, j, rfl⟩ : ∃ (r : Fin 2048) (j : Fin 64), i = ix2 r j := ⟨i 0, i 1, eq_ix2 i⟩
  have hc : c.val < 32 := c.isLt
  let s : Dev nD := ⟨r.val / 64, by have := r.isLt; show r.val / 64 < 32; omega⟩
  let a : Fin 64 := ⟨r.val % 64, Nat.mod_lt _ (by decide)⟩
  let n : Fin 2048 := ⟨64 * c.val + j.val, by have := j.isLt; omega⟩
  have hr : r.val = 64 * s.val + a.val := (Nat.div_add_mod r.val 64).symm
  have hl : outAt m c (ix2 r j) = entry x w r n := by
    refine (pay98_apply (prodAt m) c s a j r n hr rfl).trans ?_
    show k0_pay1 (xstg m s) (wstg m s) (ix2 a n) = _
    rw [xstg_eq, wstg_eq, hx, hw, pay1_apply]
    unfold entry
    refine congrArg (fun z : EReal => max z 0) (Finset.sum_congr rfl fun k _ => ?_)
    refine congrArg (fun z : EReal => z * w (ix2 k n)) ?_
    rw [Layout.block_apply]
    refine congrArg x (funext fun b => Fin.ext ?_)
    fin_cases b
    · show s.val * 64 + a.val = r.val
      omega
    · rfl
  rw [hl, Layout.block_apply, ← whole_apply]
  refine congrArg (whole x w) (funext fun b => Fin.ext ?_)
  fin_cases b
  · rfl
  · show 64 * c.val + j.val = c.val * 64 + j.val
    omega

end Cert.AllToAll

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Lib.Tactic
public import Idealize.ShloMosaic.Adequacy
public import Idealize.ShloMosaic.Init

@[expose] public section

noncomputable section

namespace Cert.Proof

open Idealize.ShloMosaic Idealize.SL.Sem Cert.Kernel

open Cert.AllToAll (QC finalA_x finalA_w finalA_out outAt_eq whole)

/-- At any float values, every run of the kernel ends with the arguments as they began and every counter at zero. -/
theorem frame_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m g c), (h.1 c (1 : Fin 3)).trans (finalA_w m g c)⟩, h.2⟩)
    (Cert.AllToAll.run_main m g)

/-- The kernel as printed and the kernel read at the ideal values are one text. -/
theorem frame_kernel : Cert.quiescent_Kernel (hKernel := Cert.Kernel.Gen.facts) := by
  intro m g _
  exact Eq.mpr (by sl_kernel_rfl) (frame_run (F := Bits) m g)

theorem frame_ideal : Cert.quiescent_KernelIdeal (hKernelIdeal := Cert.KernelIdeal.Gen.facts) := fun m g _ => frame_run (F := Ideal) m g

/-- The one-device program writes no argument and has no semaphore. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run m g)

/-- From matching arguments, each device's result is its block of columns of the one-device program's result. -/
theorem values : Cert.algebraic_KernelIdeal_ReferenceIdeal (hKernelIdeal := Cert.KernelIdeal.Gen.facts)
    (hReferenceIdeal := Cert.ReferenceIdeal.Gen.facts) := by
  intro m g m' g' _ hag
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c (2 : Fin 3)).trans (finalA_out m g c)).trans
          (outAt_eq m _ _ (fun d => (hag d).1) (fun d => (hag d).2) c),
        (h.1 c (0 : Fin 3)).trans (finalA_x m g c), (h.1 c (1 : Fin 3)).trans (finalA_w m g c)⟩)
      (Cert.AllToAll.run_main (F := Ideal) m g)
  · exact (θ_run Cert.ReferenceIdeal.defs _ _).mono (fun r h => h 0) (Cert.ReferenceIdeal.Value.run m' g')

theorem claim : Cert.Claim := ⟨Cert.Kernel.Gen.facts, Cert.KernelIdeal.Gen.facts, Cert.ReferenceIdeal.Gen.facts,
  frame_kernel, frame_ideal, frame_reference, trivial, values⟩

end Cert.Proof

end
